-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![16384, 1024]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S2048x1024 : Shape := ⟨2, ![2048, 1024]⟩
abbrev S512x1024 : Shape := ⟨2, ![512, 1024]⟩
abbrev S10 : Shape := ⟨1, ![10]⟩
abbrev S8 : Shape := ⟨1, ![8]⟩
abbrev S3 : Shape := ⟨1, ![3]⟩
abbrev S_ : Shape := ⟨0, ![]⟩
abbrev S1 : Shape := ⟨1, ![1]⟩
abbrev S256x1024 : Shape := ⟨2, ![256, 1024]⟩

abbrev nBuf : Space → Nat
  | .hbm => 2
  | .vmem => 3
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .local _ .vmem, ⟨0, _⟩ => ⟨S8192x1024, .f32⟩
  | .local _ .vmem, ⟨1, _⟩ => ⟨S2048x1024, .f32⟩
  | .local _ .vmem, ⟨2, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  (ofTc nBuf bufTy 1 75 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_12 : BitVec 32 := 4#32
  let v22 : BitVec 32 := Scalar.muli v9 c4_i32_12
  let v23 : BitVec 32 := Scalar.addi c0_i32 v22
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v24 : BitVec 32 := Scalar.muli v5 c2_i32_13
  let v25 : BitVec 32 := Scalar.addi v23 v24
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v26 : BitVec 32 := Scalar.muli v8 c1_i32_14
  let v27 : BitVec 32 := Scalar.addi v25 v26
  v27.toNat
def k0_dev2 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v28 : BitVec 32 := Scalar.muli v2 c4_i32_16
  let v29 : BitVec 32 := Scalar.addi c0_i32_17 v28
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_18 : BitVec 32 := 2#32
  let v30 : BitVec 32 := Scalar.muli v10 c2_i32_18
  let v31 : BitVec 32 := Scalar.addi v29 v30
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v32 : BitVec 32 := Scalar.muli v8 c1_i32_19
  let v33 : BitVec 32 := Scalar.addi v31 v32
  v33.toNat
def k0_dev3 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v34 : BitVec 32 := Scalar.muli v2 c4_i32_21
  let v35 : BitVec 32 := Scalar.addi c0_i32_22 v34
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v36 : BitVec 32 := Scalar.muli v5 c2_i32_23
  let v37 : BitVec 32 := Scalar.addi v35 v36
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_24 : BitVec 32 := 1#32
  let v38 : BitVec 32 := Scalar.muli v11 c1_i32_24
  let v39 : BitVec 32 := Scalar.addi v37 v38
  v39.toNat
def k0_off1 (d0 : Dev nD) (c0_i32_26 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c2048_i32 : BitVec 32 := 2048#32
  let v40 : BitVec 32 := Scalar.muli v13 c2048_i32
  let v41 : BitVec 32 := Scalar.addi v40 c0_i32_26
  let c0_i32_35 : BitVec 32 := 0#32
  ![v41.toNat, 0]
def k0_dev4 (d0 : Dev nD) : Nat :=
  let c0_i32_30 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_29 : BitVec 32 := 4#32
  let v42 : BitVec 32 := Scalar.muli v9 c4_i32_29
  let v43 : BitVec 32 := Scalar.addi c0_i32_30 v42
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v44 : BitVec 32 := Scalar.muli v5 c2_i32_31
  let v45 : BitVec 32 := Scalar.addi v43 v44
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v46 : BitVec 32 := Scalar.muli v8 c1_i32_32
  let v47 : BitVec 32 := Scalar.addi v45 v46
  v47.toNat
def k0_dev5 (d0 : Dev nD) : Nat :=
  let c0_i32_40 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_39 : BitVec 32 := 4#32
  let v56 : BitVec 32 := Scalar.muli v9 c4_i32_39
  let v57 : BitVec 32 := Scalar.addi c0_i32_40 v56
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_41 : BitVec 32 := 2#32
  let v58 : BitVec 32 := Scalar.muli v5 c2_i32_41
  let v59 : BitVec 32 := Scalar.addi v57 v58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_42 : BitVec 32 := 1#32
  let v60 : BitVec 32 := Scalar.muli v8 c1_i32_42
  let v61 : BitVec 32 := Scalar.addi v59 v60
  v61.toNat
def k0_dev6 (d0 : Dev nD) : Nat :=
  let c0_i32_50 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_49 : BitVec 32 := 4#32
  let v70 : BitVec 32 := Scalar.muli v9 c4_i32_49
  let v71 : BitVec 32 := Scalar.addi c0_i32_50 v70
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_51 : BitVec 32 := 2#32
  let v72 : BitVec 32 := Scalar.muli v5 c2_i32_51
  let v73 : BitVec 32 := Scalar.addi v71 v72
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_52 : BitVec 32 := 1#32
  let v74 : BitVec 32 := Scalar.muli v8 c1_i32_52
  let v75 : BitVec 32 := Scalar.addi v73 v74
  v75.toNat
def k0_dev7 (d0 : Dev nD) : Nat :=
  let c0_i32_60 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_59 : BitVec 32 := 4#32
  let v84 : BitVec 32 := Scalar.muli v9 c4_i32_59
  let v85 : BitVec 32 := Scalar.addi c0_i32_60 v84
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_61 : BitVec 32 := 2#32
  let v86 : BitVec 32 := Scalar.muli v5 c2_i32_61
  let v87 : BitVec 32 := Scalar.addi v85 v86
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_62 : BitVec 32 := 1#32
  let v88 : BitVec 32 := Scalar.muli v8 c1_i32_62
  let v89 : BitVec 32 := Scalar.addi v87 v88
  v89.toNat
def k0_dev8 (d0 : Dev nD) : Nat :=
  let c0_i32_70 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_69 : BitVec 32 := 4#32
  let v98 : BitVec 32 := Scalar.muli v9 c4_i32_69
  let v99 : BitVec 32 := Scalar.addi c0_i32_70 v98
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_71 : BitVec 32 := 2#32
  let v100 : BitVec 32 := Scalar.muli v5 c2_i32_71
  let v101 : BitVec 32 := Scalar.addi v99 v100
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_72 : BitVec 32 := 1#32
  let v102 : BitVec 32 := Scalar.muli v8 c1_i32_72
  let v103 : BitVec 32 := Scalar.addi v101 v102
  v103.toNat
def k0_dev9 (d0 : Dev nD) : Nat :=
  let c0_i32_79 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_78 : BitVec 32 := 4#32
  let v112 : BitVec 32 := Scalar.muli v9 c4_i32_78
  let v113 : BitVec 32 := Scalar.addi c0_i32_79 v112
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v114 : BitVec 32 := Scalar.muli v5 c2_i32_80
  let v115 : BitVec 32 := Scalar.addi v113 v114
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v116 : BitVec 32 := Scalar.muli v8 c1_i32_81
  let v117 : BitVec 32 := Scalar.addi v115 v116
  v117.toNat
def k0_dev10 (d0 : Dev nD) : Nat :=
  let c0_i32_88 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_87 : BitVec 32 := 4#32
  let v126 : BitVec 32 := Scalar.muli v9 c4_i32_87
  let v127 : BitVec 32 := Scalar.addi c0_i32_88 v126
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_89 : BitVec 32 := 2#32
  let v128 : BitVec 32 := Scalar.muli v5 c2_i32_89
  let v129 : BitVec 32 := Scalar.addi v127 v128
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_90 : BitVec 32 := 1#32
  let v130 : BitVec 32 := Scalar.muli v8 c1_i32_90
  let v131 : BitVec 32 := Scalar.addi v129 v130
  v131.toNat
def k0_dev11 (d0 : Dev nD) : Nat :=
  let c0_i32_97 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_96 : BitVec 32 := 4#32
  let v140 : BitVec 32 := Scalar.muli v9 c4_i32_96
  let v141 : BitVec 32 := Scalar.addi c0_i32_97 v140
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_98 : BitVec 32 := 2#32
  let v142 : BitVec 32 := Scalar.muli v5 c2_i32_98
  let v143 : BitVec 32 := Scalar.addi v141 v142
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_99 : BitVec 32 := 1#32
  let v144 : BitVec 32 := Scalar.muli v8 c1_i32_99
  let v145 : BitVec 32 := Scalar.addi v143 v144
  v145.toNat
def k0_off2 (d0 : Dev nD) (c0_i32_104 : BitVec 32) : Fin 2 → Nat :=
  let c3_i32 : BitVec 32 := 3#32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v20 : BitVec 32 := Scalar.subi c3_i32 v13
  let c2048_i32_103 : BitVec 32 := 2048#32
  let v152 : BitVec 32 := Scalar.muli v20 c2048_i32_103
  let v153 : BitVec 32 := Scalar.addi v152 c0_i32_104
  let c0_i32_112 : BitVec 32 := 0#32
  ![v153.toNat, 0]
def k0_dev12 (d0 : Dev nD) : Nat :=
  let c0_i32_107 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_106 : BitVec 32 := 4#32
  let v154 : BitVec 32 := Scalar.muli v9 c4_i32_106
  let v155 : BitVec 32 := Scalar.addi c0_i32_107 v154
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_108 : BitVec 32 := 2#32
  let v156 : BitVec 32 := Scalar.muli v5 c2_i32_108
  let v157 : BitVec 32 := Scalar.addi v155 v156
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_109 : BitVec 32 := 1#32
  let v158 : BitVec 32 := Scalar.muli v8 c1_i32_109
  let v159 : BitVec 32 := Scalar.addi v157 v158
  v159.toNat
def k0_dev13 (d0 : Dev nD) : Nat :=
  let c0_i32_117 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_116 : BitVec 32 := 4#32
  let v168 : BitVec 32 := Scalar.muli v9 c4_i32_116
  let v169 : BitVec 32 := Scalar.addi c0_i32_117 v168
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_118 : BitVec 32 := 2#32
  let v170 : BitVec 32 := Scalar.muli v5 c2_i32_118
  let v171 : BitVec 32 := Scalar.addi v169 v170
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_119 : BitVec 32 := 1#32
  let v172 : BitVec 32 := Scalar.muli v8 c1_i32_119
  let v173 : BitVec 32 := Scalar.addi v171 v172
  v173.toNat
def k0_off3 (d0 : Dev nD) (c0_i32_134 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c2048_i32_133 : BitVec 32 := 2048#32
  let v191 : BitVec 32 := Scalar.muli v13 c2048_i32_133
  let v192 : BitVec 32 := Scalar.addi v191 c0_i32_134
  let v193 : Index := Scalar.indexCast v192
  let c0_135 : Index := 0#32
  ![v193.toNat, 0]
def k0_dev14 (d0 : Dev nD) : Nat :=
  let c0_i32_143 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_142 : BitVec 32 := 4#32
  let v202 : BitVec 32 := Scalar.muli v2 c4_i32_142
  let v203 : BitVec 32 := Scalar.addi c0_i32_143 v202
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_144 : BitVec 32 := 2#32
  let v204 : BitVec 32 := Scalar.muli v10 c2_i32_144
  let v205 : BitVec 32 := Scalar.addi v203 v204
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_145 : BitVec 32 := 1#32
  let v206 : BitVec 32 := Scalar.muli v8 c1_i32_145
  let v207 : BitVec 32 := Scalar.addi v205 v206
  v207.toNat
def k0_dev15 (d0 : Dev nD) : Nat :=
  let c0_i32_154 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_153 : BitVec 32 := 4#32
  let v216 : BitVec 32 := Scalar.muli v2 c4_i32_153
  let v217 : BitVec 32 := Scalar.addi c0_i32_154 v216
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_155 : BitVec 32 := 2#32
  let v218 : BitVec 32 := Scalar.muli v5 c2_i32_155
  let v219 : BitVec 32 := Scalar.addi v217 v218
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_156 : BitVec 32 := 1#32
  let v220 : BitVec 32 := Scalar.muli v11 c1_i32_156
  let v221 : BitVec 32 := Scalar.addi v219 v220
  v221.toNat
def k0_dev16 (d0 : Dev nD) : Nat :=
  let c0_i32_186 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_185 : BitVec 32 := 4#32
  let v256 : BitVec 32 := Scalar.muli v2 c4_i32_185
  let v257 : BitVec 32 := Scalar.addi c0_i32_186 v256
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_187 : BitVec 32 := 2#32
  let v258 : BitVec 32 := Scalar.muli v10 c2_i32_187
  let v259 : BitVec 32 := Scalar.addi v257 v258
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_188 : BitVec 32 := 1#32
  let v260 : BitVec 32 := Scalar.muli v8 c1_i32_188
  let v261 : BitVec 32 := Scalar.addi v259 v260
  v261.toNat
def k0_dev17 (d0 : Dev nD) : Nat :=
  let c0_i32_197 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_196 : BitVec 32 := 4#32
  let v270 : BitVec 32 := Scalar.muli v2 c4_i32_196
  let v271 : BitVec 32 := Scalar.addi c0_i32_197 v270
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_198 : BitVec 32 := 2#32
  let v272 : BitVec 32 := Scalar.muli v5 c2_i32_198
  let v273 : BitVec 32 := Scalar.addi v271 v272
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_199 : BitVec 32 := 1#32
  let v274 : BitVec 32 := Scalar.muli v11 c1_i32_199
  let v275 : BitVec 32 := Scalar.addi v273 v274
  v275.toNat
def k0_dev18 (d0 : Dev nD) : Nat :=
  let c0_i32_229 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_228 : BitVec 32 := 4#32
  let v310 : BitVec 32 := Scalar.muli v2 c4_i32_228
  let v311 : BitVec 32 := Scalar.addi c0_i32_229 v310
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_230 : BitVec 32 := 2#32
  let v312 : BitVec 32 := Scalar.muli v10 c2_i32_230
  let v313 : BitVec 32 := Scalar.addi v311 v312
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_231 : BitVec 32 := 1#32
  let v314 : BitVec 32 := Scalar.muli v8 c1_i32_231
  let v315 : BitVec 32 := Scalar.addi v313 v314
  v315.toNat
def k0_dev19 (d0 : Dev nD) : Nat :=
  let c0_i32_240 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_239 : BitVec 32 := 4#32
  let v324 : BitVec 32 := Scalar.muli v2 c4_i32_239
  let v325 : BitVec 32 := Scalar.addi c0_i32_240 v324
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_241 : BitVec 32 := 2#32
  let v326 : BitVec 32 := Scalar.muli v5 c2_i32_241
  let v327 : BitVec 32 := Scalar.addi v325 v326
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_242 : BitVec 32 := 1#32
  let v328 : BitVec 32 := Scalar.muli v11 c1_i32_242
  let v329 : BitVec 32 := Scalar.addi v327 v328
  v329.toNat
def k0_dev20 (d0 : Dev nD) : Nat :=
  let c0_i32_272 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_271 : BitVec 32 := 4#32
  let v364 : BitVec 32 := Scalar.muli v2 c4_i32_271
  let v365 : BitVec 32 := Scalar.addi c0_i32_272 v364
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_273 : BitVec 32 := 2#32
  let v366 : BitVec 32 := Scalar.muli v10 c2_i32_273
  let v367 : BitVec 32 := Scalar.addi v365 v366
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_274 : BitVec 32 := 1#32
  let v368 : BitVec 32 := Scalar.muli v8 c1_i32_274
  let v369 : BitVec 32 := Scalar.addi v367 v368
  v369.toNat
def k0_dev21 (d0 : Dev nD) : Nat :=
  let c0_i32_283 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_282 : BitVec 32 := 4#32
  let v378 : BitVec 32 := Scalar.muli v2 c4_i32_282
  let v379 : BitVec 32 := Scalar.addi c0_i32_283 v378
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_284 : BitVec 32 := 2#32
  let v380 : BitVec 32 := Scalar.muli v5 c2_i32_284
  let v381 : BitVec 32 := Scalar.addi v379 v380
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_285 : BitVec 32 := 1#32
  let v382 : BitVec 32 := Scalar.muli v11 c1_i32_285
  let v383 : BitVec 32 := Scalar.addi v381 v382
  v383.toNat
def k0_dev22 (d0 : Dev nD) : Nat :=
  let c0_i32_315 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_314 : BitVec 32 := 4#32
  let v418 : BitVec 32 := Scalar.muli v2 c4_i32_314
  let v419 : BitVec 32 := Scalar.addi c0_i32_315 v418
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_316 : BitVec 32 := 2#32
  let v420 : BitVec 32 := Scalar.muli v10 c2_i32_316
  let v421 : BitVec 32 := Scalar.addi v419 v420
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_317 : BitVec 32 := 1#32
  let v422 : BitVec 32 := Scalar.muli v8 c1_i32_317
  let v423 : BitVec 32 := Scalar.addi v421 v422
  v423.toNat
def k0_dev23 (d0 : Dev nD) : Nat :=
  let c0_i32_326 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_325 : BitVec 32 := 4#32
  let v432 : BitVec 32 := Scalar.muli v2 c4_i32_325
  let v433 : BitVec 32 := Scalar.addi c0_i32_326 v432
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_327 : BitVec 32 := 2#32
  let v434 : BitVec 32 := Scalar.muli v5 c2_i32_327
  let v435 : BitVec 32 := Scalar.addi v433 v434
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_328 : BitVec 32 := 1#32
  let v436 : BitVec 32 := Scalar.muli v11 c1_i32_328
  let v437 : BitVec 32 := Scalar.addi v435 v436
  v437.toNat
def k0_dev24 (d0 : Dev nD) : Nat :=
  let c0_i32_358 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_357 : BitVec 32 := 4#32
  let v472 : BitVec 32 := Scalar.muli v2 c4_i32_357
  let v473 : BitVec 32 := Scalar.addi c0_i32_358 v472
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_359 : BitVec 32 := 2#32
  let v474 : BitVec 32 := Scalar.muli v10 c2_i32_359
  let v475 : BitVec 32 := Scalar.addi v473 v474
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_360 : BitVec 32 := 1#32
  let v476 : BitVec 32 := Scalar.muli v8 c1_i32_360
  let v477 : BitVec 32 := Scalar.addi v475 v476
  v477.toNat
def k0_dev25 (d0 : Dev nD) : Nat :=
  let c0_i32_369 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_368 : BitVec 32 := 4#32
  let v486 : BitVec 32 := Scalar.muli v2 c4_i32_368
  let v487 : BitVec 32 := Scalar.addi c0_i32_369 v486
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_370 : BitVec 32 := 2#32
  let v488 : BitVec 32 := Scalar.muli v5 c2_i32_370
  let v489 : BitVec 32 := Scalar.addi v487 v488
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_371 : BitVec 32 := 1#32
  let v490 : BitVec 32 := Scalar.muli v11 c1_i32_371
  let v491 : BitVec 32 := Scalar.addi v489 v490
  v491.toNat
def k0_dev26 (d0 : Dev nD) : Nat :=
  let c0_i32_401 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_400 : BitVec 32 := 4#32
  let v526 : BitVec 32 := Scalar.muli v2 c4_i32_400
  let v527 : BitVec 32 := Scalar.addi c0_i32_401 v526
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_402 : BitVec 32 := 2#32
  let v528 : BitVec 32 := Scalar.muli v10 c2_i32_402
  let v529 : BitVec 32 := Scalar.addi v527 v528
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_403 : BitVec 32 := 1#32
  let v530 : BitVec 32 := Scalar.muli v8 c1_i32_403
  let v531 : BitVec 32 := Scalar.addi v529 v530
  v531.toNat
def k0_dev27 (d0 : Dev nD) : Nat :=
  let c0_i32_412 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_411 : BitVec 32 := 4#32
  let v540 : BitVec 32 := Scalar.muli v2 c4_i32_411
  let v541 : BitVec 32 := Scalar.addi c0_i32_412 v540
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_413 : BitVec 32 := 2#32
  let v542 : BitVec 32 := Scalar.muli v5 c2_i32_413
  let v543 : BitVec 32 := Scalar.addi v541 v542
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_414 : BitVec 32 := 1#32
  let v544 : BitVec 32 := Scalar.muli v11 c1_i32_414
  let v545 : BitVec 32 := Scalar.addi v543 v544
  v545.toNat
def k0_dev28 (d0 : Dev nD) : Nat :=
  let c0_i32_444 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_443 : BitVec 32 := 4#32
  let v580 : BitVec 32 := Scalar.muli v2 c4_i32_443
  let v581 : BitVec 32 := Scalar.addi c0_i32_444 v580
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_445 : BitVec 32 := 2#32
  let v582 : BitVec 32 := Scalar.muli v10 c2_i32_445
  let v583 : BitVec 32 := Scalar.addi v581 v582
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_446 : BitVec 32 := 1#32
  let v584 : BitVec 32 := Scalar.muli v8 c1_i32_446
  let v585 : BitVec 32 := Scalar.addi v583 v584
  v585.toNat
def k0_dev29 (d0 : Dev nD) : Nat :=
  let c0_i32_455 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_454 : BitVec 32 := 4#32
  let v594 : BitVec 32 := Scalar.muli v2 c4_i32_454
  let v595 : BitVec 32 := Scalar.addi c0_i32_455 v594
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_456 : BitVec 32 := 2#32
  let v596 : BitVec 32 := Scalar.muli v5 c2_i32_456
  let v597 : BitVec 32 := Scalar.addi v595 v596
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_457 : BitVec 32 := 1#32
  let v598 : BitVec 32 := Scalar.muli v11 c1_i32_457
  let v599 : BitVec 32 := Scalar.addi v597 v598
  v599.toNat
def k0_off4 (d0 : Dev nD) (c0_i32_479 : BitVec 32) : Fin 2 → Nat :=
  let c3_i32 : BitVec 32 := 3#32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v20 : BitVec 32 := Scalar.subi c3_i32 v13
  let c2048_i32_478 : BitVec 32 := 2048#32
  let v623 : BitVec 32 := Scalar.muli v20 c2048_i32_478
  let v624 : BitVec 32 := Scalar.addi v623 c0_i32_479
  let v625 : Index := Scalar.indexCast v624
  let c0_480 : Index := 0#32
  ![v625.toNat, 0]
def k0_off5 (d0 : Dev nD) (c512_i32_532 : BitVec 32) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c2048_i32_531 : BitVec 32 := 2048#32
  let v684 : BitVec 32 := Scalar.muli v19 c2048_i32_531
  let v685 : BitVec 32 := Scalar.addi v684 c512_i32_532
  let c0_i32_549 : BitVec 32 := 0#32
  ![v685.toNat, 0]
def k0_dev30 (d0 : Dev nD) : Nat :=
  let c0_i32_559 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_558 : BitVec 32 := 4#32
  let v710 : BitVec 32 := Scalar.muli v2 c4_i32_558
  let v711 : BitVec 32 := Scalar.addi c0_i32_559 v710
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_560 : BitVec 32 := 2#32
  let v712 : BitVec 32 := Scalar.muli v10 c2_i32_560
  let v713 : BitVec 32 := Scalar.addi v711 v712
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_561 : BitVec 32 := 1#32
  let v714 : BitVec 32 := Scalar.muli v8 c1_i32_561
  let v715 : BitVec 32 := Scalar.addi v713 v714
  v715.toNat
def k0_dev31 (d0 : Dev nD) : Nat :=
  let c0_i32_580 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_579 : BitVec 32 := 4#32
  let v736 : BitVec 32 := Scalar.muli v2 c4_i32_579
  let v737 : BitVec 32 := Scalar.addi c0_i32_580 v736
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_581 : BitVec 32 := 2#32
  let v738 : BitVec 32 := Scalar.muli v10 c2_i32_581
  let v739 : BitVec 32 := Scalar.addi v737 v738
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_582 : BitVec 32 := 1#32
  let v740 : BitVec 32 := Scalar.muli v8 c1_i32_582
  let v741 : BitVec 32 := Scalar.addi v739 v740
  v741.toNat
def k0_dev32 (d0 : Dev nD) : Nat :=
  let c0_i32_601 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_600 : BitVec 32 := 4#32
  let v762 : BitVec 32 := Scalar.muli v2 c4_i32_600
  let v763 : BitVec 32 := Scalar.addi c0_i32_601 v762
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_602 : BitVec 32 := 2#32
  let v764 : BitVec 32 := Scalar.muli v10 c2_i32_602
  let v765 : BitVec 32 := Scalar.addi v763 v764
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_603 : BitVec 32 := 1#32
  let v766 : BitVec 32 := Scalar.muli v8 c1_i32_603
  let v767 : BitVec 32 := Scalar.addi v765 v766
  v767.toNat
def k0_off6 (d0 : Dev nD) (c1280_i32_522 : BitVec 32) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c2048_i32_521 : BitVec 32 := 2048#32
  let v674 : BitVec 32 := Scalar.muli v16 c2048_i32_521
  let v675 : BitVec 32 := Scalar.addi v674 c1280_i32_522
  let c0_i32_612 : BitVec 32 := 0#32
  ![v675.toNat, 0]
def k0_dev33 (d0 : Dev nD) : Nat :=
  let c0_i32_622 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_621 : BitVec 32 := 4#32
  let v788 : BitVec 32 := Scalar.muli v2 c4_i32_621
  let v789 : BitVec 32 := Scalar.addi c0_i32_622 v788
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_623 : BitVec 32 := 2#32
  let v790 : BitVec 32 := Scalar.muli v5 c2_i32_623
  let v791 : BitVec 32 := Scalar.addi v789 v790
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_624 : BitVec 32 := 1#32
  let v792 : BitVec 32 := Scalar.muli v11 c1_i32_624
  let v793 : BitVec 32 := Scalar.addi v791 v792
  v793.toNat
def k0_dev34 (d0 : Dev nD) : Nat :=
  let c0_i32_643 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_642 : BitVec 32 := 4#32
  let v814 : BitVec 32 := Scalar.muli v2 c4_i32_642
  let v815 : BitVec 32 := Scalar.addi c0_i32_643 v814
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_644 : BitVec 32 := 2#32
  let v816 : BitVec 32 := Scalar.muli v5 c2_i32_644
  let v817 : BitVec 32 := Scalar.addi v815 v816
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_645 : BitVec 32 := 1#32
  let v818 : BitVec 32 := Scalar.muli v11 c1_i32_645
  let v819 : BitVec 32 := Scalar.addi v817 v818
  v819.toNat
def k0_dev35 (d0 : Dev nD) : Nat :=
  let c0_i32_664 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_663 : BitVec 32 := 4#32
  let v840 : BitVec 32 := Scalar.muli v2 c4_i32_663
  let v841 : BitVec 32 := Scalar.addi c0_i32_664 v840
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_665 : BitVec 32 := 2#32
  let v842 : BitVec 32 := Scalar.muli v5 c2_i32_665
  let v843 : BitVec 32 := Scalar.addi v841 v842
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_666 : BitVec 32 := 1#32
  let v844 : BitVec 32 := Scalar.muli v11 c1_i32_666
  let v845 : BitVec 32 := Scalar.addi v843 v844
  v845.toNat
abbrev stage0_0 : Fin 1 → Memref sig .tc .vmem S8192x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S16384x1024 : Shape := ⟨2, ![16384, 1024]⟩
abbrev S2x8192x1024 : Shape := ⟨3, ![2, 8192, 1024]⟩
abbrev S_ : Shape := ⟨0, ![]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x8192x1024, .f32⟩
  | .hbm, ⟨2, _⟩ => ⟨S_, .f32⟩
  | .hbm, ⟨3, _⟩ => ⟨S8192x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Ideal.Prog.lean ====
/-
# The kernel's body as a program with loops

The printed body is one long straight line of transfers and waits. Here the same line is written the way the
algorithm is meant: three signals, a wait, and then loops over row blocks. `body_eq` states that the two are the
same program. The rest of the proof reasons about the loops, one lemma for each kind of step.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.P

open Cert.KernelIdeal Cert.KernelIdeal.Gen

open Idealize.ShloMosaic
open Idealize.ShloMosaic.TcCoe
open Idealize.SL.Sem

variable {F : FTy → Type} [FloatOps F]

/-- The programs a TensorCore of this kernel runs. -/
abbrev Code (F : FTy → Type) [FloatOps F] (α : Type) : Type 1 := Prog (TpuEff nD τ sig (Elt F) Λ₀ .tc) α

/-- Run `f` at each member of a list, in order. -/
def loop {ι : Type} (f : ι → Code F PUnit) : List ι → Code F PUnit
  | [] => .ret ⟨⟩
  | i :: l => f i >>= fun _ => loop f l

/-! ## The arrays and their row blocks -/

/-- The argument's staging buffer, the result, and the two receive buffers. -/
abbrev xM : Memref sig .tc .vmem S8192x1024 .f32 := Memref.whole cc0_stg0_0
abbrev oM : Memref sig .tc .hbm S8192x1024 .f32 := Memref.whole main_v1
abbrev bM : Memref sig .tc .vmem S2048x1024 .f32 := Memref.whole cc0_scratch0
abbrev gM : Memref sig .tc .vmem S512x1024 .f32 := Memref.whole cc0_scratch1

/-- The blocks of 256 rows of each array, from a given offset. -/
def xAt (o : Fin 2 → Nat) (h : ∀ a, o a + S256x1024.size a ≤ S8192x1024.size a) : Memref sig .tc .vmem S256x1024 .f32 :=
  xM.slice (Rect.unit (s := S8192x1024) o S256x1024.size h) (fun _ => rfl)
def oAt (o : Fin 2 → Nat) (h : ∀ a, o a + S256x1024.size a ≤ S8192x1024.size a) : Memref sig .tc .hbm S256x1024 .f32 :=
  oM.slice (Rect.unit (s := S8192x1024) o S256x1024.size h) (fun _ => rfl)

/-- The row blocks of the first receive buffer lie within it. -/
theorem inb_own : ∀ (k : Fin 8) (a : Fin 2), (![256 * k.val, 0] : Fin 2 → Nat) a + S256x1024.size a ≤ S2048x1024.size a := by decide
/-- The row blocks of the second receive buffer lie within it. -/
theorem inb_diag : ∀ (k : Fin 2) (a : Fin 2), (![256 * k.val, 0] : Fin 2 → Nat) a + S256x1024.size a ≤ S512x1024.size a := by decide

/-- The row block `k` of a receive buffer. -/
def bRect (k : Fin 8) : Rect S2048x1024 := Rect.unit (s := S2048x1024) ![256 * k.val, 0] S256x1024.size (inb_own k)
def gRect (k : Fin 2) : Rect S512x1024 := Rect.unit (s := S512x1024) ![256 * k.val, 0] S256x1024.size (inb_diag k)
def bW (k : Fin 8) : Memref sig .tc .vmem S256x1024 .f32 := bM.slice (bRect k) (fun _ => rfl)
def gW (k : Fin 2) : Memref sig .tc .vmem S256x1024 .f32 := gM.slice (gRect k) (fun _ => rfl)

/-- The offset of row block `k` as the program computes it. -/
abbrev row (k : Fin 8) : BitVec 32 := BitVec.ofNat 32 (256 * k.val)
abbrev row2 (k : Fin 2) : BitVec 32 := BitVec.ofNat 32 (256 * k.val)

/-- Two row blocks' numbers among the eight, and the three from `n` on. -/
def lo (j : Fin 2) : Fin 8 := ⟨j.val, by omega⟩
def f2 (i : Fin 3) : Fin 8 := ⟨2 + i.val, by omega⟩
def f5 (i : Fin 3) : Fin 8 := ⟨5 + i.val, by omega⟩

/-- The windows of device `d` as the program computes them: its own quarter of the argument, the quarter of the
    device diagonally opposite, and the same quarters of the result with those of its two neighbours. -/
def xq (d : Dev nD) (k : Fin 8) := xAt (k0_off1 d (row k)) (k0_off1_inb d k)
def xd (d : Dev nD) (j : Fin 2) := xAt (k0_off2 d (row2 j)) (k0_off2_inb d (lo j))
def oq (d : Dev nD) (k : Fin 8) := oAt (k0_off1 d (row k)) (k0_off1_inb d k)
def od (d : Dev nD) (k : Fin 8) := oAt (k0_off2 d (row k)) (k0_off2_inb d k)
def oz (d : Dev nD) (k : Fin 8) := oAt (k0_off5 d (row k)) (k0_off5_inb d k)
def oy (d : Dev nD) (k : Fin 8) := oAt (k0_off6 d (row k)) (k0_off6_inb d k)
def lxq (d : Dev nD) (k : Fin 8) : Rect S8192x1024 := Rect.unit (s := S8192x1024) (k0_off3 d (row k)) S256x1024.size (k0_off3_inb d k)
def lxd (d : Dev nD) (j : Fin 2) : Rect S8192x1024 := Rect.unit (s := S8192x1024) (k0_off4 d (row2 j)) S256x1024.size (k0_off4_inb d j)

/-! ## The semaphores and the neighbours -/

/-- The barrier semaphore, which all devices share by name. -/
def barS : Sem sig := (SemArray.scalar (sig.barrier 0 rfl) : Sems sig S_).sem

/-- The semaphore `k` from number `b` on. -/
abbrev sm (b n : Nat) (h : b + n ≤ 75) (k : Fin n) : DmaSem sig := ⟨b + k.val, by have := k.isLt; show _ < 75; omega⟩

def xS (i : Fin 10) : DmaSem sig := sm 1 10 (by decide) i
def xR (i : Fin 10) : DmaSem sig := sm 11 10 (by decide) i
def aS (k : Fin 8) : DmaSem sig := sm 21 8 (by decide) k
def aR (k : Fin 8) : DmaSem sig := sm 29 8 (by decide) k
def bS (k : Fin 8) : DmaSem sig := sm 37 8 (by decide) k
def bR (k : Fin 8) : DmaSem sig := sm 45 8 (by decide) k
def dS (i : Fin 3) : DmaSem sig := sm 53 3 (by decide) i
def dR (i : Fin 3) : DmaSem sig := sm 56 3 (by decide) i
def eS (i : Fin 3) : DmaSem sig := sm 59 3 (by decide) i
def eR (i : Fin 3) : DmaSem sig := sm 62 3 (by decide) i
def cS (i : Fin 10) : DmaSem sig := sm 65 10 (by decide) i

/-- The neighbour along each of the three axes. -/
def xn (d : Dev nD) : Dev nD := ⟨k0_dev1 d, k0_dev1_lt d⟩
def yn (d : Dev nD) : Dev nD := ⟨k0_dev2 d, k0_dev2_lt d⟩
def zn (d : Dev nD) : Dev nD := ⟨k0_dev3 d, k0_dev3_lt d⟩

/-! ## The steps -/

/-- A transfer to device `n`. -/
abbrev send {sp sp' : Space} (src : Memref sig .tc sp S256x1024 .f32) (dst : Memref sig .tc sp' S256x1024 .f32) (n : Dev nD) (s r : DmaSem sig)
    (h : DmaTarget.Typed (nD := nD) (τ := τ) (p := .tc) sp (.dma r) (.remote (Dev.tc n) dst (.dma s))) : Code F PUnit :=
  Prog.lift (.enqueueDma src (.remote (Dev.tc n) dst (.dma s)) (.dma r) (View.wordExact_bits rfl) (View.wordExact_bits rfl) h)

/-- A transfer within the device. -/
abbrev copy {sp sp' : Space} (src : Memref sig .tc sp S256x1024 .f32) (dst : Memref sig .tc sp' S256x1024 .f32) (s : DmaSem sig)
    (h : DmaTarget.Typed (nD := nD) (τ := τ) (p := .tc) sp (.dma s) (.here dst)) : Code F PUnit :=
  Prog.lift (.enqueueDma src (.here dst) (.dma s) (View.wordExact_bits rfl) (View.wordExact_bits rfl) h)

/-- A wait for a transfer of one row block. -/
abbrev await {sp sp' : Space} (s : DmaSem sig) (src : Memref sig .tc sp S256x1024 .f32) (dst : Memref sig .tc sp' S256x1024 .f32) : Code F PUnit :=
  Prog.lift (.waitDma2 s src dst (View.wordExact_bits rfl) (View.wordExact_bits rfl))

/-- The transfer number `i` to the neighbour along the first axis: eight blocks of the own quarter, then two of the
    diagonal quarter. -/
def sendX (d : Dev nD) : Fin 8 ⊕ Fin 2 → Code F PUnit
  | .inl k => send (xq d k) (bW k) (xn d) (xS (k.castLE (by decide))) (xR (k.castLE (by decide))) ⟨⟨rfl, Or.inl rfl⟩, trivial⟩
  | .inr j => send (xd d j) (gW j) (xn d) (xS (j.natAdd 8)) (xR (j.natAdd 8)) ⟨⟨rfl, Or.inl rfl⟩, trivial⟩

/-- Add the own rows to a received block of the own quarter, send the sum to two neighbours and to the result. -/
def chunkO (d : Dev nD) (k : Fin 8) : Code F PUnit :=
  await (xR (k.castLE (by decide))) (xq d k) (bW k) >>= fun _ =>
  Prog.lift (.load bM (bRect k).toLoadRect (View.loadsAt_vmem h_S256x1024)) >>= fun (v : Vec F S256x1024 .f32) =>
  Prog.lift (.load xM (lxq d k).toLoadRect (View.loadsAt_vmem h_S256x1024)) >>= fun (w : Vec F S256x1024 .f32) =>
  Prog.lift (.load bM (bRect k).toLoadRect (View.loadsAt_vmem h_S256x1024)) >>= fun (_ : Vec F S256x1024 .f32) =>
  Prog.lift (.store bM (bRect k) (k0_pay1 v w) Finset.univ (View.stores_vmem_bits_univ h_S256x1024 rfl) (.inl rfl)) >>= fun _ =>
  send (bW k) (oq d k) (yn d) (aS k) (aR k) ⟨⟨rfl, Or.inl rfl⟩, trivial⟩ >>= fun _ =>
  send (bW k) (oq d k) (zn d) (bS k) (bR k) ⟨⟨rfl, Or.inl rfl⟩, trivial⟩ >>= fun _ =>
  copy (bW k) (oq d k) (cS (k.castLE (by decide))) ⟨Or.inl rfl, trivial⟩

/-- Add the own rows to a received block of the diagonal quarter and copy the sum to the result. -/
def chunkD (d : Dev nD) (j : Fin 2) : Code F PUnit :=
  await (xR (j.natAdd 8)) (xd d j) (gW j) >>= fun _ =>
  Prog.lift (.load gM (gRect j).toLoadRect (View.loadsAt_vmem h_S256x1024)) >>= fun (v : Vec F S256x1024 .f32) =>
  Prog.lift (.load xM (lxd d j).toLoadRect (View.loadsAt_vmem h_S256x1024)) >>= fun (w : Vec F S256x1024 .f32) =>
  Prog.lift (.load gM (gRect j).toLoadRect (View.loadsAt_vmem h_S256x1024)) >>= fun (_ : Vec F S256x1024 .f32) =>
  Prog.lift (.store gM (gRect j) (k0_pay1 v w) Finset.univ (View.stores_vmem_bits_univ h_S256x1024 rfl) (.inl rfl)) >>= fun _ =>
  copy (gW j) (od d (lo j)) (cS (j.natAdd 8)) ⟨Or.inl rfl, trivial⟩

/-- Pass a block received along the third axis on along the second, and the other way round. -/
def passD (d : Dev nD) (i : Fin 3) : Code F PUnit :=
  await (bR (f2 i)) (bW (f2 i)) (oz d (f2 i)) >>= fun _ =>
  send (oz d (f2 i)) (oz d (f2 i)) (yn d) (dS i) (dR i) ⟨⟨rfl, Or.inl rfl⟩, trivial⟩
def passE (d : Dev nD) (i : Fin 3) : Code F PUnit :=
  await (aR (f5 i)) (bW (f5 i)) (oy d (f5 i)) >>= fun _ =>
  send (oy d (f5 i)) (oy d (f5 i)) (zn d) (eS i) (eR i) ⟨⟨rfl, Or.inl rfl⟩, trivial⟩

/-- The waits at the end. -/
inductive Last
  | aR (k : Fin 8) | bR (k : Fin 8) | dR (i : Fin 3) | eR (i : Fin 3)
  | xS (k : Fin 8) | gS (j : Fin 2) | aS (k : Fin 8) | bS (k : Fin 8) | dS (i : Fin 3) | eS (i : Fin 3)
  | cS (k : Fin 8) | hS (j : Fin 2)

def last (d : Dev nD) : Last → Code F PUnit
  | .aR k => await (P.aR k) (bW k) (oy d k)
  | .bR k => await (P.bR k) (bW k) (oz d k)
  | .dR i => await (P.dR i) (bW (f2 i)) (od d (f2 i))
  | .eR i => await (P.eR i) (bW (f5 i)) (od d (f5 i))
  | .xS k => await (P.xS (k.castLE (by decide))) (bW k) (xq d k)
  | .gS j => await (P.xS (j.natAdd 8)) (gW j) (xd d j)
  | .aS k => await (P.aS k) (oq d k) (bW k)
  | .bS k => await (P.bS k) (oq d k) (bW k)
  | .dS i => await (P.dS i) (oz d (f2 i)) (oz d (f2 i))
  | .eS i => await (P.eS i) (oy d (f5 i)) (oy d (f5 i))
  | .cS k => await (P.cS (k.castLE (by decide))) (bW k) (oq d k)
  | .hS j => await (P.cS (j.natAdd 8)) (gW j) (od d (lo j))

/-- The waits for what arrived, and the waits for what was sent, in the program's order. -/
def lastR : List Last :=
  [.aR 0, .bR 0, .aR 1, .bR 1, .aR 2, .aR 3, .aR 4, .bR 5, .bR 6, .bR 7, .dR 0, .dR 1, .dR 2, .eR 0, .eR 1, .eR 2]
def lastS : List Last :=
  [.xS 0, .xS 1, .xS 2, .xS 3, .xS 4, .xS 5, .xS 6, .xS 7, .gS 0, .gS 1,
   .aS 0, .aS 1, .aS 2, .aS 3, .aS 4, .aS 5, .aS 6, .aS 7, .bS 0, .bS 1, .bS 2, .bS 3, .bS 4, .bS 5, .bS 6, .bS 7,
   .dS 0, .dS 1, .dS 2, .eS 0, .eS 1, .eS 2,
   .cS 0, .cS 1, .cS 2, .cS 3, .cS 4, .cS 5, .cS 6, .cS 7, .hS 0, .hS 1]

def all8 : List (Fin 8) := [0, 1, 2, 3, 4, 5, 6, 7]
def all2 : List (Fin 2) := [0, 1]
def all3 : List (Fin 3) := [0, 1, 2]

/-- The body of device `d`. -/
def prog (d : Dev nD) : Code F PUnit :=
  semSignalWord (xn d) barS 1#32 >>= fun _ =>
  semSignalWord (yn d) barS 1#32 >>= fun _ =>
  semSignalWord (zn d) barS 1#32 >>= fun _ =>
  semWaitWord barS 3#32 >>= fun _ =>
  loop (sendX d) (all8.map .inl ++ all2.map .inr) >>= fun _ =>
  loop (chunkO d) all8 >>= fun _ =>
  loop (chunkD d) all2 >>= fun _ =>
  loop (passD d) all3 >>= fun _ =>
  loop (passE d) all3 >>= fun _ =>
  loop (last d) lastR >>= fun _ =>
  loop (last d) lastS

set_option maxRecDepth 100000 in
set_option maxHeartbeats 4000000 in
/-- The printed body is `prog` at the device's own name. -/
theorem body_eq :
    (cc0_body xM (Memref.isWhole_whole _) oM (Memref.isWhole_whole _) bM (Memref.isWhole_whole _) gM (Memref.isWhole_whole _)
      cc0_scratch2 cc0_scratch3 cc0_scratch4 cc0_scratch5 cc0_scratch6 cc0_scratch7 cc0_scratch8 cc0_scratch9 cc0_scratch10
      cc0_scratch11 cc0_scratch12 : Code F PUnit) = Prog.lift .deviceId >>= prog := by
  rfl

end Cert.KernelIdeal.P
end
-- ==== Proof.Ideal.Sched.lean ====
/-
# Who pays whom: the cells, the blocks they carry, and the levels

Every semaphore the kernel uses has one round. The barrier semaphore of a device has three duties, one for each
neighbour; each other semaphore has one duty, of one row block's credit. Here are the semaphores by name, the windows
each transfer reads and writes, the contents it carries, the schedule made of these, what each device owes at the start
and the levels that order the waits.
-/
module

public import proofs.«01_k».proof.Proof.Ideal.Prog
public import Idealize.ShloMosaic.Lib.Pipeline.TableIdle

@[expose] public section

noncomputable section

namespace Cert.KernelIdeal.P

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's part and the part of this kernel's cells, whose duties are named by `Fin 3`. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The devices and the quarters -/

/-- The neighbour in each of the three directions. -/
def nb (δ : Fin 3) (c : Dev nD) : Dev nD := match δ with | 0 => xn c | 1 => yn c | 2 => zn c

/-- The neighbour's neighbour in the same direction is the device itself. -/
theorem nb_nb : ∀ (δ : Fin 3) (c : Dev nD), nb δ (nb δ c) = c := by decide +kernel

/-- A direction's exchange of devices. -/
def nbE (δ : Fin 3) : Dev nD ≃ Dev nD := ⟨nb δ, nb δ, nb_nb δ, nb_nb δ⟩

/-- The quarter a device reduces for itself, its two neighbours' quarters, and the diagonal quarter. -/
def qi (c : Dev nD) : Fin 4 := ⟨2 * ((c.val / 2) % 2) + c.val % 2, by omega⟩
def yi (c : Dev nD) : Fin 4 := ⟨2 * (1 - (c.val / 2) % 2) + c.val % 2, by omega⟩
def zi (c : Dev nD) : Fin 4 := ⟨2 * ((c.val / 2) % 2) + (1 - c.val % 2), by omega⟩
def di (c : Dev nD) : Fin 4 := ⟨3 - (2 * ((c.val / 2) % 2) + c.val % 2), by omega⟩

/-! ## The windows -/

/-- The row blocks of the quarters lie within the array. -/
theorem inb_R : ∀ (Q : Fin 4) (k : Fin 8) (a : Fin 2), (![2048 * Q.val + 256 * k.val, 0] : Fin 2 → Nat) a + S256x1024.size a ≤ S8192x1024.size a := by
  decide +kernel

/-- Row block `k` of quarter `Q`. -/
def R (p : Fin 4 × Fin 8) : Rect S8192x1024 := Rect.unit (s := S8192x1024) ![2048 * p.1.val + 256 * p.2.val, 0] S256x1024.size (inb_R p.1 p.2)

def xW (Q : Fin 4) (k : Fin 8) : Memref sig .tc .vmem S256x1024 .f32 := xM.slice (R (Q, k)) (fun _ => rfl)
def oW (Q : Fin 4) (k : Fin 8) : Memref sig .tc .hbm S256x1024 .f32 := oM.slice (R (Q, k)) (fun _ => rfl)

/-- Windows of the argument at equal offsets are equal. -/
theorem xAt_congr {o o' : Fin 2 → Nat} (e : o = o') (h h') : xAt o h = xAt o' h' := by subst e; rfl
/-- Windows of the result at equal offsets are equal. -/
theorem oAt_congr {o o' : Fin 2 → Nat} (e : o = o') (h h') : oAt o h = oAt o' h' := by subst e; rfl

/-- The first offset the program computes is that of the own quarter's row block. -/
theorem off1 : ∀ (c : Dev nD) (k : Fin 8), k0_off1 c (row k) = ![2048 * (qi c).val + 256 * k.val, 0] := by decide +kernel
/-- The second offset is that of the diagonal quarter's row block. -/
theorem off2 : ∀ (c : Dev nD) (k : Fin 8), k0_off2 c (row k) = ![2048 * (di c).val + 256 * k.val, 0] := by decide +kernel
/-- The second offset, at one of the first two row blocks of the diagonal quarter. -/
theorem off2' : ∀ (c : Dev nD) (j : Fin 2), k0_off2 c (row2 j) = ![2048 * (di c).val + 256 * (lo j).val, 0] := by decide +kernel
/-- The third offset is that of the own quarter's row block. -/
theorem off3 : ∀ (c : Dev nD) (k : Fin 8), k0_off3 c (row k) = ![2048 * (qi c).val + 256 * k.val, 0] := by decide +kernel
/-- The fourth offset is that of one of the first two row blocks of the diagonal quarter. -/
theorem off4 : ∀ (c : Dev nD) (j : Fin 2), k0_off4 c (row2 j) = ![2048 * (di c).val + 256 * (lo j).val, 0] := by decide +kernel
/-- The fifth offset is that of a row block of the third neighbour's quarter. -/
theorem off5 : ∀ (c : Dev nD) (k : Fin 8), k0_off5 c (row k) = ![2048 * (zi c).val + 256 * k.val, 0] := by decide +kernel
/-- The sixth offset is that of a row block of the second neighbour's quarter. -/
theorem off6 : ∀ (c : Dev nD) (k : Fin 8), k0_off6 c (row k) = ![2048 * (yi c).val + 256 * k.val, 0] := by decide +kernel

/-- The program's windows are the row blocks of the quarters. -/
theorem xq_eq (c : Dev nD) (k : Fin 8) : xq c k = xW (qi c) k := xAt_congr (off1 c k) _ (inb_R _ _)
/-- The argument's window sent from the diagonal quarter is one of its first two row blocks. -/
theorem xd_eq (c : Dev nD) (j : Fin 2) : xd c j = xW (di c) (lo j) := xAt_congr (off2' c j) _ (inb_R _ _)
/-- The result's window in the own quarter is a row block of it. -/
theorem oq_eq (c : Dev nD) (k : Fin 8) : oq c k = oW (qi c) k := oAt_congr (off1 c k) _ (inb_R _ _)
/-- The result's window in the diagonal quarter is a row block of it. -/
theorem od_eq (c : Dev nD) (k : Fin 8) : od c k = oW (di c) k := oAt_congr (off2 c k) _ (inb_R _ _)
/-- The result's window in the third neighbour's quarter is a row block of it. -/
theorem oz_eq (c : Dev nD) (k : Fin 8) : oz c k = oW (zi c) k := oAt_congr (off5 c k) _ (inb_R _ _)
/-- The result's window in the second neighbour's quarter is a row block of it. -/
theorem oy_eq (c : Dev nD) (k : Fin 8) : oy c k = oW (yi c) k := oAt_congr (off6 c k) _ (inb_R _ _)
/-- The argument's window that is loaded from the own quarter is a row block of it. -/
theorem lxq_eq (c : Dev nD) (k : Fin 8) : xAt (k0_off3 c (row k)) (k0_off3_inb c k) = xW (qi c) k := xAt_congr (off3 c k) _ (inb_R _ _)
/-- The argument's window that is loaded from the diagonal quarter is one of its first two row blocks. -/
theorem lxd_eq (c : Dev nD) (j : Fin 2) : xAt (k0_off4 c (row2 j)) (k0_off4_inb c j) = xW (di c) (lo j) := xAt_congr (off4 c j) _ (inb_R _ _)

/-! ## The transfers and the cells -/

/-- The transfers to other devices: to the first neighbour `x` and `g`, to the second `a` and `d`, to the third `b` and `e`. -/
inductive Xf
  | x (k : Fin 8) | g (j : Fin 2) | a (k : Fin 8) | b (k : Fin 8) | d (i : Fin 3) | e (i : Fin 3)
  deriving DecidableEq

/-- The transfers in each direction, and all of them. -/
def dirL : Fin 3 → List Xf
  | 0 => all8.map .x ++ all2.map .g
  | 1 => all8.map .a ++ all3.map .d
  | 2 => all8.map .b ++ all3.map .e
def allX : List Xf := dirL 0 ++ (dirL 1 ++ dirL 2)

/-- Every transfer is in the list. -/
theorem mem_allX (t : Xf) : t ∈ allX := by
  cases t <;> (rename_i i; revert i; decide)
instance : Fintype Xf := ⟨⟨allX, by decide⟩, mem_allX⟩

/-- A device's semaphores: the barrier, a send and a receive semaphore of each transfer, and those of the local copies. -/
inductive Cell
  | bar | snd (t : Xf) | rcv (t : Xf) | cp (k : Fin 8) | hp (j : Fin 2)
  deriving DecidableEq

def allC : List Cell := .bar :: (allX.map .snd ++ (allX.map .rcv ++ (all8.map .cp ++ all2.map .hp)))

/-- Every cell is in the list. -/
theorem mem_allC (k : Cell) : k ∈ allC := by
  cases k <;> first | exact List.mem_cons_self | (rename_i i; revert i; decide)
instance : Fintype Cell := ⟨⟨allC, by decide⟩, mem_allC⟩

def sndS : Xf → DmaSem sig
  | .x k => xS (k.castLE (by decide)) | .g j => xS (j.natAdd 8) | .a k => aS k | .b k => bS k | .d i => dS i | .e i => eS i
def rcvS : Xf → DmaSem sig
  | .x k => xR (k.castLE (by decide)) | .g j => xR (j.natAdd 8) | .a k => aR k | .b k => bR k | .d i => dR i | .e i => eR i

/-- The semaphore of a cell. -/
def csem : Cell → SemLoc sig
  | .bar => .reg barS
  | .snd t => .dma (sndS t)
  | .rcv t => .dma (rcvS t)
  | .cp k => .dma (cS (k.castLE (by decide)))
  | .hp j => .dma (cS (j.natAdd 8))

/-- Different cells have different semaphores. -/
theorem csem_inj : Function.Injective csem := by
  have h : ∀ a b : Cell, csem a = csem b → a = b := by decide +kernel
  exact fun a b => h a b

abbrev kcell (ck : Dev nD × Cell) : GSem nD τ sig := ((ck.1 : Thread nD τ), csem ck.2)

/-- Different cells of any devices are different. -/
theorem kcell_inj : Function.Injective kcell := by
  rintro ⟨c, k⟩ ⟨c', k'⟩ h
  have h1 : c = c' := by have := congrArg (fun g : GSem nD τ sig => g.1.1) h; exact this
  have h2 : k = k' := csem_inj (congrArg Prod.snd h)
  rw [h1, h2]

/-- The cell of a semaphore. -/
instance : Nonempty Cell := ⟨.bar⟩
def dec (s : SemLoc sig) : Cell := Function.invFun csem s
/-- The cell of a cell's semaphore is that cell. -/
theorem dec_csem (k : Cell) : dec (csem k) = k := Function.leftInverse_invFun csem_inj k

/-- A window of one row block, in whichever memory. -/
abbrev Win : Type := (sp : Space) × Memref sig .tc sp S256x1024 .f32
abbrev win {sp : Space} (w : Memref sig .tc sp S256x1024 .f32) : Win := ⟨sp, w⟩

/-- The direction of a transfer, and the device it goes to, which is also the one its counterpart comes from. -/
def dir : Xf → Fin 3
  | .x _ => 0 | .g _ => 0 | .a _ => 1 | .d _ => 1 | .b _ => 2 | .e _ => 2
def peer (t : Xf) (c : Dev nD) : Dev nD := nb (dir t) c
/-- The peer's peer in a transfer is the device itself. -/
theorem peer_peer (t : Xf) (c : Dev nD) : peer t (peer t c) = c := nb_nb _ _

/-- What device `c` reads in transfer `t`, and where device `p` receives it. -/
def srcW (t : Xf) (c : Dev nD) : Win := match t with
  | .x k => win (xW (qi c) k) | .g j => win (xW (di c) (lo j)) | .a k => win (bW k) | .b k => win (bW k)
  | .d i => win (oW (zi c) (f2 i)) | .e i => win (oW (yi c) (f5 i))
def dstW (t : Xf) (p : Dev nD) : Win := match t with
  | .x k => win (bW k) | .g j => win (gW j) | .a k => win (oW (yi p) k) | .b k => win (oW (zi p) k)
  | .d i => win (oW (di p) (f2 i)) | .e i => win (oW (di p) (f5 i))

/-- The share of the source a transfer is given. -/
def shr : Xf → PosShare TreeShare
  | .x _ => fullShare.right | .g _ => fullShare.right | .a _ => fullShare.left | .b _ => fullShare.right.left
  | .d _ => fullShare | .e _ => fullShare

/-! ## The contents -/

/-- The values of one row block. -/
abbrev Blk (F : FTy → Type) [FloatOps F] : Type := S256x1024.Idx → Elt F .f32

/-- Device `c`'s argument as staged, and its row blocks. -/
def xstg (c : Dev nD) : (cc0_stg0_0 : Ref sig .tc).ty.Contents (Elt F) :=
  (win0_0.blk (0 : Fin 1)).view.read (Elt F) (m ((c : Thread nD τ).loc main_arg0))
def xblk (c : Dev nD) (Q : Fin 4) (k : Fin 8) : Blk F := fun j => xstg m c ((R (Q, k)).emb j)

/-- The sum of a row block with the first neighbour's. -/
def red (c : Dev nD) (Q : Fin 4) (k : Fin 8) : Blk F := k0_pay1 (xblk m (xn c) Q k) (xblk m c Q k)

/-- What device `c` sends in transfer `t`. -/
def cont (t : Xf) (c : Dev nD) : Blk F := match t with
  | .x k => xblk m c (qi c) k | .g j => xblk m c (di c) (lo j) | .a k => red m c (qi c) k | .b k => red m c (qi c) k
  | .d i => red m (zn c) (zi c) (f2 i) | .e i => red m (yn c) (yi c) (f5 i)

/-! ## Separating conjunction over a list -/

def sepL {ι : Type} (Φ : ι → sProp 𝕄) : List ι → sProp 𝕄
  | [] => iprop(emp)
  | i :: l => iprop(Φ i ∗ sepL Φ l)

instance sepL_storable {ι : Type} (Φ : ι → sProp 𝕄) [h : ∀ i, BI.Storable (upEmb : UEmb _ 𝕄) (Φ i)] :
    (l : List ι) → BI.Storable (upEmb : UEmb _ 𝕄) (sepL Φ l)
  | [] => by unfold sepL; infer_instance
  | i :: l => by
    have := sepL_storable Φ l
    unfold sepL; infer_instance

/-! ## The payloads -/

/-- Device `c` owns a window at given contents, or at any. -/
abbrev own (c : Dev nD) (w : Win) (q : PosShare TreeShare) (X : Blk F) : sProp 𝕄 := owns (Val := Elt F) (c : Thread nD τ) w.2 q X
abbrev any (c : Dev nD) (w : Win) : sProp 𝕄 := iprop(∃ X : Blk F, own c w fullShare X)

/-- What a signal in direction `δ` hands over: the windows of the signalling device that the other will write. -/
def barPay (c : Dev nD) (δ : Fin 3) : sProp 𝕄 := sepL (F := F) (fun t => any (nb δ c) (dstW t (nb δ c))) (dirL δ)
/-- A completed send gives the source back; a completed receive gives the destination filled. -/
def sndPay (t : Xf) (c : Dev nD) : sProp 𝕄 := own c (srcW t c) (shr t) (cont m t c)
def rcvPay (t : Xf) (p : Dev nD) : sProp 𝕄 := own p (dstW t p) fullShare (cont m t (peer t p))
/-- A local copy gives both back. -/
def cpPay (k : Fin 8) (c : Dev nD) : sProp 𝕄 :=
  iprop(own c (win (oW (qi c) k)) fullShare (red m c (qi c) k) ∗ own c (win (bW k)) fullShare.right.right (red m c (qi c) k))
def hpPay (j : Fin 2) (c : Dev nD) : sProp 𝕄 :=
  iprop(own c (win (oW (di c) (lo j))) fullShare (red m c (di c) (lo j)) ∗ own c (win (gW j)) fullShare (red m c (di c) (lo j)))

def pay (k : Cell) (c : Dev nD) (δ : Fin 3) : sProp 𝕄 := match k with
  | .bar => barPay c δ
  | .snd t => sndPay m t c
  | .rcv t => rcvPay m t c
  | .cp k => cpPay m k c
  | .hp j => hpPay m j c

instance pay_storable (k : Cell) (c : Dev nD) (δ : Fin 3) : BI.Storable (upEmb : UEmb _ 𝕄) (pay (F := F) m k c δ) := by
  cases k
  · show BI.Storable _ (barPay c δ); unfold barPay; infer_instance
  · show BI.Storable _ (sndPay m _ c); unfold sndPay; infer_instance
  · show BI.Storable _ (rcvPay m _ c); unfold rcvPay; infer_instance
  · show BI.Storable _ (cpPay m _ c); unfold cpPay; infer_instance
  · show BI.Storable _ (hpPay m _ c); unfold hpPay; infer_instance

/-! ## The schedule -/

/-- The credit of one row block. -/
abbrev N : ℕ := (bW 0).view.dmaCredit
/-- A row block has some credit. -/
theorem N_pos : 0 < N := View.dmaCredit_pos _ (by decide)

def amt : Cell → ℕ | .bar => 1 | _ => N
def dts : Cell → Finset (Fin 3) | .bar => Finset.univ | _ => {0}

def Rd : Rounds.Schedule (GSem nD τ sig) (Fin 3) 𝕄 where
  duties g r := if r = 0 then dts (dec g.2) else ∅
  unitless _ := False
  amount g _ _ := amt (dec g.2)
  payload g _ δ := pay m (dec g.2) g.1.1 δ
  amount_pos g _ _ _ := by cases dec g.2 <;> first | exact Nat.one_pos | exact N_pos

instance Rd_storable (g : GSem nD τ sig) (r : ℕ) (δ : Fin 3) : BI.Storable (upEmb : UEmb _ 𝕄) ((Rd (F := F) m).payload g r δ) := by
  show BI.Storable upEmb (pay m (dec g.2) g.1.1 δ); infer_instance

section
variable (c : Dev nD) (k : Cell)

/-- A cell's duties in its first round are those of its kind. -/
theorem duties0 : (Rd (F := F) m).duties (kcell (c, k)) 0 = dts k := by
  show (if 0 = 0 then dts (dec (csem k)) else ∅) = _
  rw [if_pos rfl, dec_csem]
/-- No cell has duties after its first round. -/
theorem duties_later (g : GSem nD τ sig) : ∀ r, 1 ≤ r → (Rd (F := F) m).duties g r = ∅ :=
  fun r hr => if_neg (by omega)
/-- The amount of a cell's duty is that of its kind. -/
theorem amount0 (δ : Fin 3) : (Rd (F := F) m).amount (kcell (c, k)) 0 δ = amt k := by
  show amt (dec (csem k)) = _; rw [dec_csem]
/-- The payload of a cell's duty is that of its kind. -/
theorem payload0 (δ : Fin 3) : (Rd (F := F) m).payload (kcell (c, k)) 0 δ = pay m k c δ := by
  show pay m (dec (csem k)) c δ = _; rw [dec_csem]
/-- A cell expects, in its first round, its amount once for each duty. -/
theorem expect0 : (Rd (F := F) m).expect (kcell (c, k)) 0 = (dts k).card * amt k := by
  unfold Schedule.expect Schedule.amountOf
  rw [duties0, Finset.sum_congr rfl fun d _ => amount0 m c k d, Finset.sum_const, smul_eq_mul]
end

/-! ## What a device owes -/

/-- The debts of a device: a signal in each direction, a block in each transfer. -/
inductive Ob | sig (δ : Fin 3) | xf (t : Xf)
  deriving DecidableEq

/-- The cell a debt is owed to, and its device. -/
def Ob.kind : Ob → Cell | .sig _ => .bar | .xf t => .rcv t
def Ob.dst : Ob → Dev nD → Dev nD | .sig δ, c => nb δ c | .xf t, c => peer t c
/-- The neighbour to which a debt is owed owes the same debt to the device. -/
theorem Ob.dst_dst (o : Ob) (c : Dev nD) : o.dst (o.dst c) = c := by cases o <;> exact nb_nb _ _

/-- The tally of a list of debts. -/
def oblig (c : Dev nD) : List Ob → CellTallies nD τ sig Unit
  | [] => 0
  | o :: l => oblig c l + tallyAt (kcell (o.dst c, o.kind)) () (amt o.kind)

/-- The debts in the order they are paid. -/
def obE : List Ob := all3.map fun i => .xf (.e i)
def obD : List Ob := (all3.map fun i => .xf (.d i)) ++ obE
def abL : List (Fin 8) → List Ob
  | [] => []
  | k :: l => .xf (.a k) :: .xf (.b k) :: abL l
def obC : List Ob := abL all8 ++ obD
def xOb : Fin 8 ⊕ Fin 2 → Ob | .inl k => .xf (.x k) | .inr j => .xf (.g j)
def xL : List (Fin 8 ⊕ Fin 2) := all8.map .inl ++ all2.map .inr
def obX : List Ob := xL.map xOb ++ obC
def obs : List Ob := .sig 0 :: .sig 1 :: .sig 2 :: obX

def O₀ (c : Dev nD) : CellTallies nD τ sig Unit := oblig c obs

/-! ## The levels -/

def clv : Cell → ℕ
  | .bar => 1
  | .rcv (.x _) => 2 | .rcv (.g _) => 2 | .rcv (.a _) => 3 | .rcv (.b _) => 3 | .rcv (.d _) => 4 | .rcv (.e _) => 4
  | _ => 0

/-- The level of a semaphore, by its number. -/
def slv : SemLoc sig → ℕ
  | .reg _ => 1
  | .dma q => if 11 ≤ q.val ∧ q.val ≤ 20 then 2 else if (29 ≤ q.val ∧ q.val ≤ 36) ∨ (45 ≤ q.val ∧ q.val ≤ 52) then 3
      else if (56 ≤ q.val ∧ q.val ≤ 58) ∨ (62 ≤ q.val ∧ q.val ≤ 64) then 4 else 0

/-- The level of a cell's semaphore is the cell's. -/
theorem slv_csem : ∀ k : Cell, slv (csem k) = clv k := by decide +kernel

def L (g : GSem nD τ sig) : Finset Unit := if g.1.2 = .tc then {()} else ∅
def lv (g : GSem nD τ sig) (_ : Unit) : ℕ := slv g.2

/-- A semaphore of any thread but a TensorCore has no tally. -/
theorem L_of_ne (g : GSem nD τ sig) (h : g.1.2 ≠ .tc) : L g = ∅ := if_neg h
/-- A semaphore of a TensorCore has one tally. -/
theorem L_tc (c : Dev nD) (s : SemLoc sig) : L ((c : Thread nD τ), s) = {()} := if_pos rfl

/-- A cell with something owed to it is the cell of a debt of the list. -/
theorem oblig_pos {c : Dev nD} {g : GSem nD τ sig} {u : Unit} : ∀ {l : List Ob}, 0 < oblig c l g u → ∃ o ∈ l, g = kcell (o.dst c, o.kind)
  | [], h => absurd h (Nat.lt_irrefl 0)
  | o :: l, h => by
    unfold oblig at h
    rw [Pi.add_apply, Finsupp.add_apply, tallyAt_apply] at h
    by_cases hg : g = kcell (o.dst c, o.kind)
    · exact ⟨o, List.mem_cons_self, hg⟩
    · rw [if_neg (fun h' => hg h'.1), Nat.add_zero] at h
      obtain ⟨o', ho', e⟩ := oblig_pos h
      exact ⟨o', List.mem_cons_of_mem _ ho', e⟩

/-- A device may wait at a semaphore when everything it still owes is at a higher level. -/
theorem mayWait (c : Dev nD) (s : SemLoc sig) (l : List Ob) (h : ∀ o ∈ l, slv s < clv o.kind) :
    (levAts L lv : sProp 𝕄) ⊢ MayWait (c : Thread nD τ) s () (oblig c l) :=
  MayOwe.of_cut (L := L) (lev := lv) (slv s) (fun p hp => by rw [Finset.mem_singleton.mp hp, L_tc]; exact Finset.mem_singleton_self _)
    (fun g u hg => by obtain ⟨o, -, rfl⟩ := oblig_pos hg; rw [L_tc]; exact Finset.mem_singleton_self _)
    (fun p hp => by rw [Finset.mem_singleton.mp hp]; exact le_rfl)
    (fun g u hg => by
      obtain ⟨o, ho, rfl⟩ := oblig_pos hg
      show slv s < slv (csem o.kind)
      rw [slv_csem]; exact h o ho)

/-- The debts passed on along the third axis are above level 3. -/
theorem lvE : ∀ o ∈ obE, 3 < clv o.kind := by decide
/-- All debts passed on are above level 3. -/
theorem lvD : ∀ o ∈ obD, 3 < clv o.kind := by decide
/-- The debts of the loop over the own quarter are above level 2. -/
theorem lvAB (l : List (Fin 8)) : ∀ o ∈ abL l, 2 < clv o.kind := by
  induction l with
  | nil => intro o h; cases h
  | cons k l ih =>
    intro o h
    rcases List.mem_cons.mp h with rfl | h
    · exact (show 2 < 3 by decide)
    rcases List.mem_cons.mp h with rfl | h
    · exact (show 2 < 3 by decide)
    exact ih o h
/-- The debts of the loop over the own quarter and all that come later are above level 2. -/
theorem lvC (l : List (Fin 8)) : ∀ o ∈ abL l ++ obD, 2 < clv o.kind := by
  intro o h
  rcases List.mem_append.mp h with h | h
  · exact lvAB l o h
  · exact lt_trans (by decide) (lvD o h)
/-- The debts of all transfers are above level 1. -/
theorem lvX : ∀ o ∈ obX, 1 < clv o.kind := by decide
/-- All debts are above level 0. -/
theorem lvS : ∀ o ∈ obs, 0 < clv o.kind := by decide

end Cert.KernelIdeal.P
end
-- ==== Proof.Ideal.Steps.lean ====
/-
# One rule for each kind of step

Rules for sequencing and for loops, for separating conjunctions over lists, and for the kernel's steps: a signal to a
neighbour, a transfer to another device, a local copy, a wait, a load and a store of a row block. Each is stated once
for every device and every transfer.
-/
module

public import proofs.«01_k».proof.Proof.Ideal.Sched

@[expose] public section

noncomputable section

namespace Cert.KernelIdeal.P

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Lists -/

section Lists
variable {ι κ : Type}

/-- The conjunction over two lists appended is the conjunction of theirs. -/
theorem sepL_append (Φ : ι → sProp 𝕄) : ∀ l l' : List ι, sepL Φ (l ++ l') ⊣⊢ iprop(sepL Φ l ∗ sepL Φ l')
  | [], l' => by
    show sepL Φ l' ⊣⊢ iprop(emp ∗ sepL Φ l')
    exact ⟨(by iintro H; isplitr; · iempintro
               iexact H), (by iintro ⟨-, H⟩; iexact H)⟩
  | i :: l, l' => by
    have ih := sepL_append Φ l l'
    show iprop(Φ i ∗ sepL Φ (l ++ l')) ⊣⊢ iprop((Φ i ∗ sepL Φ l) ∗ sepL Φ l')
    constructor
    · iintro ⟨H, Hl⟩
      ihave Hl' := ih.1 $$ Hl
      icases Hl' with ⟨H1, H2⟩
      isplitl [H H1]
      · isplitl [H] <;> iassumption
      iexact H2
    · iintro ⟨⟨H, H1⟩, H2⟩
      isplitl [H]; · iexact H
      iapply ih.2
      isplitl [H1] <;> iassumption

/-- The conjunction over a mapped list. -/
theorem sepL_map (Φ : κ → sProp 𝕄) (f : ι → κ) : ∀ l : List ι, sepL Φ (l.map f) = sepL (fun i => Φ (f i)) l
  | [] => rfl
  | i :: l => by show iprop(Φ (f i) ∗ sepL Φ (l.map f)) = _; rw [sepL_map Φ f l]; rfl

/-- A conjunction over a list entails another when each entry does. -/
theorem sepL_mono {Φ Ψ : ι → sProp 𝕄} (h : ∀ i, Φ i ⊢ Ψ i) : ∀ l : List ι, sepL Φ l ⊢ sepL Ψ l
  | [] => .rfl
  | i :: l => BI.sep_mono (h i) (sepL_mono h l)

/-- A family of pairs over a list is two families over it, and the other way round. -/
theorem sepL_sep (Φ Ψ : ι → sProp 𝕄) : ∀ l : List ι, sepL (fun i => iprop(Φ i ∗ Ψ i)) l ⊣⊢ iprop(sepL Φ l ∗ sepL Ψ l)
  | [] => by
    show iprop(emp) ⊣⊢ iprop(emp ∗ emp)
    exact ⟨(by iintro H; isplitr <;> iempintro), (by iintro -; iempintro)⟩
  | i :: l => by
    have ih := sepL_sep Φ Ψ l
    show iprop((Φ i ∗ Ψ i) ∗ sepL (fun i => iprop(Φ i ∗ Ψ i)) l) ⊣⊢ iprop((Φ i ∗ sepL Φ l) ∗ (Ψ i ∗ sepL Ψ l))
    constructor
    · iintro ⟨⟨H, H'⟩, Hl⟩
      ihave Hl' := ih.1 $$ Hl
      icases Hl' with ⟨H1, H2⟩
      isplitl [H H1]
      · isplitl [H] <;> iassumption
      isplitl [H'] <;> iassumption
    · iintro ⟨⟨H, H1⟩, ⟨H', H2⟩⟩
      isplitl [H H']
      · isplitl [H] <;> iassumption
      iapply ih.2
      isplitl [H1] <;> iassumption

/-- The order of a list does not matter to the conjunction over it. -/
theorem sepL_perm (Φ : ι → sProp 𝕄) {l l' : List ι} (h : l.Perm l') : sepL Φ l ⊢ sepL Φ l' := by
  induction h with
  | nil => exact .rfl
  | cons i _ ih => exact sep_mono_right ih
  | swap i j l =>
    show iprop(Φ j ∗ Φ i ∗ sepL Φ l) ⊢ iprop(Φ i ∗ Φ j ∗ sepL Φ l)
    iintro ⟨H, H', Hl⟩
    isplitl [H']; · iexact H'
    isplitl [H] <;> iassumption
  | trans _ _ h₁ h₂ => exact h₁.trans h₂

/-- A family's conjunction gives any one of its entries. -/
theorem bigSep_one [DecidableEq ι] {s : Finset ι} {Φ : ι → sProp 𝕄} (i : ι) (h : i ∈ s) : (bigSep s Φ : sProp 𝕄) ⊢ Φ i := bigSep_elim h

/-- The conjunction over a finite type is the one over a list of its members. -/
theorem bigSep_sepL [Fintype ι] [DecidableEq ι] (Φ : ι → sProp 𝕄) : ∀ (l : List ι), l.Nodup → bigSep l.toFinset Φ ⊣⊢ sepL Φ l
  | [], _ => by
    show bigSep ∅ Φ ⊣⊢ iprop(emp)
    exact ⟨.rfl, .rfl⟩
  | i :: l, h => by
    have ih := bigSep_sepL Φ l (List.nodup_cons.mp h).2
    rw [List.toFinset_cons, bigSep_insert (fun h' => (List.nodup_cons.mp h).1 (List.mem_toFinset.mp h'))]
    exact ⟨sep_mono_right ih.1, sep_mono_right ih.2⟩
/-- The conjunction over a finite type is the one over any list that has each member once. -/
theorem bigSep_list [Fintype ι] [DecidableEq ι] (Φ : ι → sProp 𝕄) (l : List ι) (hn : l.Nodup) (hm : ∀ i, i ∈ l) :
    bigSep Finset.univ Φ ⊣⊢ sepL Φ l := by
  have e : (Finset.univ : Finset ι) = l.toFinset := by
    ext i; exact ⟨fun _ => List.mem_toFinset.mpr (hm i), fun _ => Finset.mem_univ i⟩
  rw [e]; exact bigSep_sepL Φ l hn

end Lists

/-! ## Sequencing -/

abbrev 𝒱₀ : Variants := Variants.none

/-- Device `c` runs `p` to the postcondition `Q`. -/
abbrev wpc {α : Type} (c : Dev nD) (p : Code F α) (Q : α → sProp 𝕄) : sProp 𝕄 :=
  wp frame (wpE (defs₀ (F := F)) 𝒱₀ (c : Thread nD τ) none) Set.univ p Q

/-- A program followed by another: what the first one leaves is what the second starts from. -/
theorem wp_seq {c : Dev nD} {p : Code F PUnit} {α : Type} {k : PUnit → Code F α} {P R : sProp 𝕄} {Q : α → sProp 𝕄}
    (h : P ⊢ wpc c p (fun _ => R)) : P ⊢ iprop((R -∗ wpc c (k ⟨⟩) Q) -∗ wpc c (p >>= k) Q) := by
  unfold wpc; rw [wp_bind]
  iintro HP Hk
  ihave H := h $$ HP
  iapply (wp_wand frame _ _) $$ H
  iintro %a HR
  iapply Hk; iexact HR

/-- A loop, each of whose turns takes one entry of `Pre` to one of `Post` and the state `S` one step on. -/
theorem wp_loop {ι : Type} {c : Dev nD} (f : ι → Code F PUnit) (C : sProp 𝕄) [BI.Persistent C] (S : List ι → sProp 𝕄) (Pre Post : ι → sProp 𝕄)
    (h : ∀ i l, iprop(C ∗ S (i :: l) ∗ Pre i) ⊢ wpc c (f i) (fun _ => iprop(S l ∗ Post i))) :
    ∀ l : List ι, iprop(C ∗ S l ∗ sepL Pre l) ⊢ wpc c (loop f l) (fun _ => iprop(S [] ∗ sepL Post l))
  | [] => by
    show _ ⊢ wp frame (wpE (defs₀ (F := F)) 𝒱₀ (c : Thread nD τ) none) Set.univ (.ret PUnit.unit) _
    rw [wp_ret]
    iintro ⟨-, HS, -⟩
    imodintro
    isplitl [HS]; · iexact HS
    iempintro
  | i :: l => by
    have ih := wp_loop f C S Pre Post h l
    show iprop(C ∗ S (i :: l) ∗ Pre i ∗ sepL Pre l) ⊢ wpc c (f i >>= fun _ => loop f l) (fun _ => iprop(S [] ∗ Post i ∗ sepL Post l))
    iintro ⟨#HC, HS, Hi, Hl⟩
    iapply (wp_seq (h i l)) $$ [HS Hi]
    · isplitr; · iexact HC
      isplitl [HS] <;> iassumption
    iintro ⟨HS, Hi⟩
    ihave H := ih $$ [HS Hl]
    · isplitr; · iexact HC
      isplitl [HS] <;> iassumption
    iapply (wp_wand frame _ _) $$ H
    iintro %a ⟨HS, Hl⟩
    isplitl [HS]; · iexact HS
    isplitl [Hi] <;> iassumption

/-! ## What every step may use -/

/-- The invariants of all cells, that each is at its first round at least, and the levels. -/
def ctx (K : Dev nD × Cell → ℕ) : sProp 𝕄 :=
  iprop(((bigSep Finset.univ fun ck : Dev nD × Cell => cellInv ER (Rd m) (K ck) (kcell ck))
    ∗ bigSep Finset.univ fun ck : Dev nD × Cell => reached ER (kcell ck) 0) ∗ levAts L lv)
instance ctx_persistent (K : Dev nD × Cell → ℕ) : BI.Persistent (ctx (F := F) m K) := by unfold ctx; infer_instance

variable (K : Dev nD × Cell → ℕ)

/-- What every step may use holds each cell's invariant. -/
theorem ctx_inv (ck : Dev nD × Cell) : ctx (F := F) m K ⊢ cellInv ER (Rd m) (K ck) (kcell ck) := by
  unfold ctx
  iintro ⟨⟨H, -⟩, -⟩
  iapply (bigSep_one ck (Finset.mem_univ ck)) $$ H
/-- What every step may use holds that each cell is at its first round at least. -/
theorem ctx_reached (ck : Dev nD × Cell) : ctx (F := F) m K ⊢ reached ER (kcell ck) 0 := by
  unfold ctx
  iintro ⟨⟨-, H⟩, -⟩
  iapply (bigSep_one ck (Finset.mem_univ ck)) $$ H
/-- What every step may use holds the levels. -/
theorem ctx_lev : ctx (F := F) m K ⊢ levAts L lv := by
  unfold ctx
  iintro ⟨-, H⟩
  iexact H

/-- What device `c` owes, after whatever waits. -/
abbrev owed (c : Dev nD) (l : List Ob) : sProp 𝕄 := iprop(∃ W, owes (c : Thread nD τ) (oblig c l) W)

/-! ## Transfers and waits -/

/-- The two tokens of a transfer; with its destination at any contents; with its source too. -/
def tks (t : Xf) (c : Dev nD) : sProp 𝕄 := iprop(dutyTok ER (kcell (c, .snd t)) 0 0 ∗ dutyTok ER (kcell (peer t c, .rcv t)) 0 0)
def goRes (t : Xf) (c : Dev nD) : sProp 𝕄 := iprop(any (F := F) (peer t c) (dstW t (peer t c)) ∗ tks t c)
def sendRes (t : Xf) (c : Dev nD) : sProp 𝕄 := iprop(own c (srcW t c) (shr t) (cont m t c) ∗ goRes t c)

/-- The credit for a cell of one row block. -/
abbrev crd (c : Dev nD) (k : Cell) : sProp 𝕄 := cred (tallyAt (kcell (c, k)) () N)

/-- Every cell but the barrier has a duty 0, -/
theorem dma_duty (k : Cell) (h : k ≠ .bar) : (0 : Fin 3) ∈ dts k := by
  cases k <;> first | exact absurd rfl h | exact Finset.mem_singleton_self _
/-- Every cell but the barrier has the amount of one row block. -/
theorem dma_amt (k : Cell) (h : k ≠ .bar) : amt k = N := by
  cases k <;> first | exact absurd rfl h | rfl
/-- Every cell but the barrier has no duty other than 0. -/
theorem dma_dts (k : Cell) (h : k ≠ .bar) : dts k = {0} := by
  cases k <;> first | exact absurd rfl h | rfl

/-- A send to the peer: a debt is paid with the source, the destination and the two tokens, and the send's own credit is left. -/
theorem step_send (t : Xf) (c : Dev nD) (l : List Ob) {w w' : Win} {n : Dev nD} {s r : DmaSem sig}
    (hw : w = srcW t c) (hn : n = peer t c) (hw' : w' = dstW t (peer t c)) (hs : s = sndS t) (hr : r = rcvS t)
    (h : DmaTarget.Typed (nD := nD) (τ := τ) (p := .tc) w.1 (.dma r) (.remote (Dev.tc n) w'.2 (.dma s))) :
    iprop(ctx m K ∗ owed c (.xf t :: l) ∗ sendRes m t c)
      ⊢ wpc c (send w.2 w'.2 n s r h) (fun _ => iprop(owed (F := F) c l ∗ crd c (.snd t))) := by
  subst hw hn hw' hs hr
  unfold sendRes goRes tks any own owns
  iintro ⟨#HC, ⟨%W, HO⟩, ⟨%f, %hf, Hs⟩, ⟨%X, %fd, %hX, Hd⟩, Ht, Ht'⟩
  iapply (Rounds.wp_send_pointsTo 𝒱₀ ER (Rd m) (c : Thread nD τ) none (κ₁ := K (c, .snd t)) (κ₂ := K (peer t c, .rcv t))
    (r₁ := 0) (r₂ := 0) (d₁ := 0) (d₂ := 0) (fd := fd) (fs := f) (q := shr t)
    (c' := (peer t c : Thread nD τ)) (sS := csem (.snd t)) (sem := csem (.rcv t))
    (by rw [duties0 m c (.snd t)]; exact Finset.mem_singleton_self _)
    (by rw [duties0 m (peer t c) (.rcv t)]; exact Finset.mem_singleton_self _)
    () () N rfl (amount0 m c (.snd t) 0) (amount0 m (peer t c) (.rcv t) 0) (oblig c l) rfl (W := W)
    (by rw [payload0 m c (.snd t)]
        show _ ⊢ sndPay m t c
        unfold sndPay; rw [← hf]
        exact owns_intro _ _ _ _)
    (by rw [payload0 m (peer t c) (.rcv t)]
        show _ ⊢ rcvPay m t (peer t c)
        unfold rcvPay; rw [peer_peer, ← hf]
        refine (owns_intro (Val := Elt F) _ _ _ _).trans (Entails.of_eq ?_)
        rw [View.read_write_univ])) $$ [HO Hs Hd Ht Ht']
  · isplitr; · iapply (ctx_inv m K (c, .snd t)); iexact HC
    isplitr; · iapply (ctx_inv m K (peer t c, .rcv t)); iexact HC
    isplitl [Hs]; · iexact Hs
    isplitl [Hd]; · iexact Hd
    isplitl [HO]; · iexact HO
    isplitl [Ht]; · iexact Ht
    isplitr; · iapply (ctx_reached m K (c, .snd t)); iexact HC
    isplitl [Ht']; · iexact Ht'
    iapply (ctx_reached m K (peer t c, .rcv t)); iexact HC
  iintro ⟨Hc, HO⟩
  rw [wp_ret]; imodintro
  isplitl [HO]
  · iexists W; iexact HO
  iexact Hc

/-- A local copy, into a cell whose payload is the destination filled with the source's contents, and the source. -/
theorem step_copy (k : Cell) (hk : k ≠ .bar) (c : Dev nD) {w w' z : Win} {q : PosShare TreeShare} {X : Blk F} {s : DmaSem sig} (hw' : w' = z)
    (hs : SemLoc.dma s = csem k) (hpay : iprop(own c z fullShare X ∗ own c w q X) ⊢ pay m k c 0)
    (h : DmaTarget.Typed (nD := nD) (τ := τ) (p := .tc) w.1 (.dma s) (.here w'.2)) :
    iprop(ctx m K ∗ own c w q X ∗ any c z ∗ dutyTok ER (kcell (c, k)) 0 0)
      ⊢ wpc c (copy w.2 w'.2 s h) (fun _ => crd (F := F) c k) := by
  subst hw'
  unfold any; unfold own at *; unfold owns at *
  iintro ⟨#HC, ⟨%f, %hf, Hs⟩, ⟨%Y, %fd, %hY, Hd⟩, Ht⟩
  subst hf
  iapply (Rounds.wp_copy_pointsTo 𝒱₀ ER (Rd m) (c : Thread nD τ) none (κ := K (c, k)) (r := 0) (d := 0) (fd := fd) (fs := f) (q := q)
    (by rw [hs, duties0 m c k]; exact dma_duty k hk)
    () N rfl (by rw [hs, amount0 m c k 0, dma_amt k hk])
    (by rw [hs, payload0 m c k]
        refine (BI.sep_mono ((owns_intro (Val := Elt F) _ _ _ _).trans (Entails.of_eq ?_)) (owns_intro (Val := Elt F) _ _ _ _)).trans hpay
        rw [View.read_write_univ]; rfl)) $$ [Hs Hd Ht]
  · rw [hs]
    isplitr; · iapply (ctx_inv m K (c, k)); iexact HC
    isplitl [Hs]; · iexact Hs
    isplitl [Hd]; · iexact Hd
    isplitl [Ht]; · iexact Ht
    iapply (ctx_reached m K (c, k)); iexact HC
  rw [hs]
  iintro Hc
  rw [wp_ret]; imodintro
  iexact Hc

/-- Before and after a wait at a cell. -/
def wPre (c : Dev nD) (k : Cell) : sProp 𝕄 := iprop(atPos ER (kcell (c, k)) 0 ∅ 0 ∗ crd c k)
def wPost (c : Dev nD) (k : Cell) : sProp 𝕄 := iprop(atPos ER (kcell (c, k)) 1 ∅ 0 ∗ pay m k c 0)

/-- A wait for a cell, allowed when everything still owed is at a higher level: it gives the cell's payload. -/
theorem step_await (k : Cell) (hk : k ≠ .bar) (c : Dev nD) (l : List Ob) (hl : ∀ o ∈ l, clv k < clv o.kind)
    {sp sp' : Space} {src : Memref sig .tc sp S256x1024 .f32} {dst : Memref sig .tc sp' S256x1024 .f32} {s : DmaSem sig} (hs : SemLoc.dma s = csem k) :
    iprop(ctx m K ∗ owed c l ∗ wPre c k)
      ⊢ wpc c (await s src dst) (fun _ => iprop(owed (F := F) c l ∗ wPost m c k)) := by
  unfold wPre wPost
  iintro ⟨#HC, ⟨%W, HO⟩, Hat, Hc⟩
  iapply (Rounds.wp_wait_rest_token 𝒱₀ ER (Rd m) (c : Thread nD τ) none (κ := K (c, k)) (sm := .dma s)
      (wpE_waitDma2_eq 𝒱₀ (c : Thread nD τ) none Set.univ) (Set.mem_univ _) () (O := oblig c l) (W := W) (R := 0) (m := 0) (T := ∅)
      (by rw [hs, Nat.zero_add, expect0 m c k, dma_dts k hk, dma_amt k hk, Finset.card_singleton, Nat.one_mul])) $$ [Hc HO Hat]
  · rw [hs]
    isplitr; · iapply (ctx_inv m K (c, k)); iexact HC
    isplitl [Hc]; · iexact Hc
    isplitl [HO]; · iexact HO
    isplitr
    · ihave Hl := (ctx_lev m K) $$ HC
      iapply (mayWait c (csem k) l (fun o ho => by rw [slv_csem]; exact hl o ho)); iexact Hl
    iexact Hat
  rw [hs]
  iintro ⟨HO, Hat, -, Hp⟩
  rw [wp_ret]; imodintro
  isplitl [HO]
  · iexists _; iexact HO
  isplitl [Hat]; · iexact Hat
  iapply (Entails.of_eq (show _ = pay m k c 0 by
    rw [Finset.sdiff_empty, duties0 m c k, dma_dts k hk, bigSep_singleton, payload0 m c k])) $$ Hp

/-- A signal in direction `δ`. -/
theorem step_signal (δ : Fin 3) (c : Dev nD) (l : List Ob) {n : Dev nD} (hn : n = nb δ c) :
    iprop(ctx m K ∗ owed c (.sig δ :: l) ∗ dutyTok ER (kcell (nb δ c, .bar)) 0 δ ∗ barPay (F := F) (nb δ c) δ)
      ⊢ wpc c (semSignalWord n barS 1#32) (fun _ => owed (F := F) c l) := by
  subst hn
  iintro ⟨#HC, ⟨%W, HO⟩, Ht, Hp⟩
  iapply (Rounds.wp_signal 𝒱₀ ER (Rd m) (c : Thread nD τ) none (dst := (nb δ c : Thread nD τ)) (κ := K (nb δ c, .bar))
      (d := δ) (by rw [show SemLoc.reg barS = csem .bar from rfl, duties0 m (nb δ c) .bar]; exact Finset.mem_univ _)
      ((amount0 m (nb δ c) .bar δ).trans (by decide)) () (oblig c l) rfl)
    $$ [HO Ht Hp]
  · isplitr; · iapply (ctx_inv m K (nb δ c, .bar)); iexact HC
    isplitl [HO]; · iexact HO
    isplitl [Ht]; · iexact Ht
    isplitl [Hp]
    · iapply (Entails.of_eq (show (Rd m).payload ((nb δ c : Thread nD τ), .reg barS) 0 δ = barPay (F := F) (nb δ c) δ from payload0 m (nb δ c) .bar δ).symm); iexact Hp
    iapply (ctx_reached m K (nb δ c, .bar)); iexact HC
  iintro HO
  rw [wp_ret]; imodintro
  iexists W; iexact HO

/-- The wait for the three neighbours' signals: their windows come with them. -/
theorem step_barrier (c : Dev nD) (l : List Ob) (hl : ∀ o ∈ l, 1 < clv o.kind) :
    iprop(ctx m K ∗ owed c l ∗ atPos ER (kcell (c, .bar)) 0 ∅ 0 ∗ cred (tallyAt (kcell (c, .bar)) () 3))
      ⊢ wpc c (semWaitWord barS 3#32)
          (fun _ => iprop(owed (F := F) c l ∗ atPos ER (kcell (c, .bar)) 1 ∅ 0 ∗ barPay c 0 ∗ barPay c 1 ∗ barPay c 2)) := by
  iintro ⟨#HC, ⟨%W, HO⟩, Hat, Hc⟩
  iapply (Rounds.wp_wait_rest_token 𝒱₀ ER (Rd m) (c : Thread nD τ) none (κ := K (c, .bar)) (sm := .reg barS)
      (wpE_semWait_eq 𝒱₀ (c : Thread nD τ) none Set.univ) (Set.mem_univ _) () (O := oblig c l) (W := W) (R := 0) (m := 0) (T := ∅)
      (by rw [show SemLoc.reg barS = csem .bar from rfl, expect0 m c .bar]; decide)) $$ [Hc HO Hat]
  · isplitr; · iapply (ctx_inv m K (c, .bar)); iexact HC
    isplitl [Hc]; · iexact Hc
    isplitl [HO]; · iexact HO
    isplitr
    · ihave Hl := (ctx_lev m K) $$ HC
      iapply (mayWait c (csem .bar) l (fun o ho => by rw [slv_csem]; exact hl o ho)); iexact Hl
    iexact Hat
  iintro ⟨HO, Hat, -, Hp⟩
  rw [wp_ret]; imodintro
  isplitl [HO]
  · iexists _; iexact HO
  isplitl [Hat]; · iexact Hat
  iapply (Entails.of_eq (show _ = iprop(barPay (F := F) c 0 ∗ barPay c 1 ∗ barPay c 2) by
    rw [Finset.sdiff_empty, show SemLoc.reg barS = csem .bar from rfl, duties0 m c .bar, show dts .bar = Finset.univ from rfl,
      bigSep_univ_eq_bigSepL [0, 1, 2] (by decide) (by decide)]
    show iprop((Rd m).payload (kcell (c, .bar)) 0 0 ∗ (Rd m).payload (kcell (c, .bar)) 0 1 ∗ (Rd m).payload (kcell (c, .bar)) 0 2) = _
    rw [payload0 m c .bar, payload0 m c .bar, payload0 m c .bar]; rfl)) $$ Hp

/-! ## Loads, stores and shares -/

/-- A load from a window held, at any share, reads its contents and leaves it held. -/
theorem step_load {cs : CoreSpace} {s : Shape} {b : Memref sig .tc cs s .f32} {r : Rect s} {h : b.view.LoadsAt r.toLoadRect} (hr : ∀ a, r.stride a = 1)
    (c : Dev nD) (q : PosShare TreeShare) (X : r.shape.Idx → Elt F .f32) {α : Type} {k : (r.shape.Idx → Elt F .f32) → Code F α} {Q : α → sProp 𝕄} :
    (owns (Val := Elt F) (c : Thread nD τ) (b.slice r hr) q X : sProp 𝕄)
      ⊢ iprop((owns (Val := Elt F) (c : Thread nD τ) (b.slice r hr) q X -∗ wpc c (k X) Q) -∗ wpc c (Prog.lift (.load b r.toLoadRect h) >>= k) Q) := by
  unfold owns
  iintro ⟨%f, %hf, H⟩ Hk
  subst hf
  rw [Prog.bind_lift]
  iapply (wp_load_rect 𝒱₀ (c : Thread nD τ) none Set.univ (m := b) (r := r) (S := (b.slice r hr).view.set) subset_rfl) $$ H
  iintro H
  iapply Hk
  iexists f
  isplitr; · ipureintro; rfl
  iexact H

/-- A store to a window held in full leaves the stored values in it. -/
theorem step_store {cs : CoreSpace} {s : Shape} {b : Memref sig .tc cs s .f32} {r : Rect s} {w : r.shape.Idx → Elt F .f32}
    {hx : (b.access r).Stores Finset.univ} {hm : (Finset.univ : Finset r.shape.Idx) = Finset.univ ∨ _} (hr : ∀ a, r.stride a = 1)
    (c : Dev nD) (X : r.shape.Idx → Elt F .f32) {α : Type} {k : PUnit → Code F α} {Q : α → sProp 𝕄} :
    (owns (Val := Elt F) (c : Thread nD τ) (b.slice r hr) fullShare X : sProp 𝕄)
      ⊢ iprop((owns (Val := Elt F) (c : Thread nD τ) (b.slice r hr) fullShare w -∗ wpc c (k ⟨⟩) Q)
        -∗ wpc c (Prog.lift (.store b r w Finset.univ hx hm) >>= k) Q) := by
  unfold owns
  iintro ⟨%f, %hf, H⟩ Hk
  rw [Prog.bind_lift]
  iapply (wp_store 𝒱₀ (c : Thread nD τ) none Set.univ (m := b) (r := r) (Mk := Finset.univ) (S := (b.slice r hr).view.set) subset_rfl) $$ H
  iintro H
  iapply Hk
  iexists (b.access r).write (Elt F) f w Finset.univ
  isplitr; · ipureintro; exact View.read_write_univ _ _
  iexact H

/-- A window's ownership splits in two halves of its share, and the halves join. -/
theorem own_halves (c : Dev nD) (w : Win) (q : PosShare TreeShare) (X : Blk F) :
    own c w q X ⊣⊢ iprop(own c w q.left X ∗ own (F := F) c w q.right X) := by
  unfold own
  rw [owns_eq_rep, owns_eq_rep, owns_eq_rep]
  exact pointsTo_share (PosShare.mem_left_op_right q)

end Cert.KernelIdeal.P
end
-- ==== Proof.Ideal.Turns.lean ====
/-
# The turns of the kernel's loops

One theorem for each loop of the body: what a turn takes and what it leaves, at every device and every row block.
-/
module

public import proofs.«01_k».proof.Proof.Ideal.Steps

@[expose] public section

noncomputable section

namespace Cert.KernelIdeal.P

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-! ## The quarters of the neighbours -/

/-- The first neighbour has the same own quarter. -/
theorem qi_xn : ∀ c, qi (xn c) = qi c := by decide +kernel
/-- The first neighbour has the same diagonal quarter. -/
theorem di_xn : ∀ c, di (xn c) = di c := by decide +kernel
/-- The second neighbour's `y` quarter is the device's own. -/
theorem yi_yn : ∀ c, yi (yn c) = qi c := by decide +kernel
/-- The third neighbour's `z` quarter is the device's own. -/
theorem zi_zn : ∀ c, zi (zn c) = qi c := by decide +kernel
/-- The second neighbour's own quarter is the device's `y` quarter. -/
theorem qi_yn : ∀ c, qi (yn c) = yi c := by decide +kernel
/-- The third neighbour's own quarter is the device's `z` quarter. -/
theorem qi_zn : ∀ c, qi (zn c) = zi c := by decide +kernel
/-- The second neighbour's diagonal quarter is the device's `z` quarter. -/
theorem di_yn : ∀ c, di (yn c) = zi c := by decide +kernel
/-- The third neighbour's diagonal quarter is the device's `y` quarter. -/
theorem di_zn : ∀ c, di (zn c) = yi c := by decide +kernel
/-- The second neighbour's `z` quarter is the device's diagonal one. -/
theorem zi_yn : ∀ c, zi (yn c) = di c := by decide +kernel
/-- The third neighbour's `y` quarter is the device's diagonal one. -/
theorem yi_zn : ∀ c, yi (zn c) = di c := by decide +kernel

/-! ## The first transfers -/

/-- The transfer of a turn of the first loop. -/
def xX : Fin 8 ⊕ Fin 2 → Xf | .inl k => .x k | .inr j => .g j

/-- A turn of the first loop sends a row block of the argument to the first neighbour. -/
theorem turnX (c : Dev nD) (i : Fin 8 ⊕ Fin 2) (l : List (Fin 8 ⊕ Fin 2)) :
    iprop(ctx m K ∗ owed c ((i :: l).map xOb ++ obC) ∗ sendRes m (xX i) c)
      ⊢ wpc c (sendX c i) (fun _ => iprop(owed (F := F) c (l.map xOb ++ obC) ∗ crd c (.snd (xX i)))) := by
  cases i with
  | inl k => exact step_send m K (.x k) c (l.map xOb ++ obC) (w := win (xq c k)) (w' := win (bW k)) (congrArg win (xq_eq c k)) rfl rfl rfl rfl _
  | inr j => exact step_send m K (.g j) c (l.map xOb ++ obC) (w := win (xd c j)) (w' := win (gW j)) (congrArg win (xd_eq c j)) rfl rfl rfl rfl _

/-! ## The blocks of the own quarter -/

/-- What a turn takes: the awaited block's position and credit, the kept half of the own rows, what the two transfers
    and the copy need. -/
def preO (c : Dev nD) (k : Fin 8) : sProp 𝕄 :=
  iprop(wPre c (.rcv (.x k)) ∗ own c (win (xW (qi c) k)) fullShare.left (xblk m c (qi c) k) ∗ goRes (.a k) c ∗ goRes (.b k) c
    ∗ any c (win (oW (qi c) k)) ∗ dutyTok ER (kcell (c, .cp k)) 0 0)
def postO (c : Dev nD) (k : Fin 8) : sProp 𝕄 :=
  iprop(atPos ER (kcell (c, .rcv (.x k))) 1 ∅ 0 ∗ own c (win (xW (qi c) k)) fullShare.left (xblk m c (qi c) k)
    ∗ crd c (.snd (.a k)) ∗ crd c (.snd (.b k)) ∗ crd c (.cp k))

/-- A turn of the loop over the own quarter: the neighbour's row block is awaited, the sum stored, sent to the other two neighbours and copied to the result. -/
theorem turnO (c : Dev nD) (k : Fin 8) (l : List (Fin 8)) :
    iprop(ctx m K ∗ owed c (abL (k :: l) ++ obD) ∗ preO m c k)
      ⊢ wpc c (chunkO c k) (fun _ => iprop(owed (F := F) c (abL l ++ obD) ∗ postO m c k)) := by
  unfold preO postO chunkO
  iintro ⟨#HC, HO, Hw, Hx, Ha, Hb, Ho, Ht⟩
  iapply (wp_seq (step_await m K (.rcv (.x k)) nofun c (abL (k :: l) ++ obD) (lvC _) (src := xq c k) (dst := bW k) rfl)) $$ [HO Hw]
  · isplitr; · iexact HC
    isplitl [HO] <;> iassumption
  unfold wPost
  iintro ⟨HO, Hat, Hp⟩
  ihave Hp := (Entails.of_eq (show pay m (.rcv (.x k)) c 0
      = owns (Val := Elt F) (c : Thread nD τ) (bM.slice (bRect k) fun _ => rfl) fullShare (xblk m (xn c) (qi c) k) by
    rw [show qi c = qi (xn c) from (qi_xn c).symm]; rfl)) $$ Hp
  iapply (step_load (b := bM) (r := bRect k) (fun _ => rfl) c fullShare (xblk m (xn c) (qi c) k)) $$ Hp
  iintro Hp
  have ex := lxq_eq c k
  ihave Hx := (Entails.of_eq (show own c (win (xW (qi c) k)) fullShare.left (xblk m c (qi c) k)
      = owns (Val := Elt F) (c : Thread nD τ) (xM.slice (lxq c k) fun _ => rfl) fullShare.left (xblk m c (qi c) k) by
    unfold own; rw [← ex]; rfl)) $$ Hx
  iapply (step_load (b := xM) (r := lxq c k) (fun _ => rfl) c fullShare.left (xblk m c (qi c) k)) $$ Hx
  iintro Hx
  iapply (step_load (b := bM) (r := bRect k) (fun _ => rfl) c fullShare (xblk m (xn c) (qi c) k)) $$ Hp
  iintro Hp
  iapply (step_store (b := bM) (r := bRect k) (w := k0_pay1 (xblk m (xn c) (qi c) k) (xblk m c (qi c) k)) (fun _ => rfl) c
    (xblk m (xn c) (qi c) k)) $$ Hp
  iintro Hp
  ihave Hp := (show owns (Val := Elt F) (c : Thread nD τ) (bM.slice (bRect k) fun _ => rfl) fullShare (k0_pay1 (xblk m (xn c) (qi c) k) (xblk m c (qi c) k))
      ⊢ own c (win (bW k)) fullShare (red m c (qi c) k) from .rfl) $$ Hp
  ihave Hp := (own_halves c (win (bW k)) fullShare (red m c (qi c) k)).1 $$ Hp
  icases Hp with ⟨H1, Hp⟩
  ihave Hp := (own_halves c (win (bW k)) fullShare.right (red m c (qi c) k)).1 $$ Hp
  icases Hp with ⟨H2, H3⟩
  iapply (wp_seq (step_send m K (.a k) c (.xf (.b k) :: (abL l ++ obD)) (w := win (bW k)) (w' := win (oq c k)) rfl rfl
    ((congrArg win (oq_eq c k)).trans (show _ = win (oW (yi (yn c)) k) by rw [yi_yn])) rfl rfl _)) $$ [HO H1 Ha]
  · unfold sendRes
    isplitr; · iexact HC
    isplitl [HO]; · iexact HO
    isplitl [H1]; · iexact H1
    iexact Ha
  iintro ⟨HO, Hca⟩
  iapply (wp_seq (step_send m K (.b k) c (abL l ++ obD) (w := win (bW k)) (w' := win (oq c k)) rfl rfl
    ((congrArg win (oq_eq c k)).trans (show _ = win (oW (zi (zn c)) k) by rw [zi_zn])) rfl rfl _)) $$ [HO H2 Hb]
  · unfold sendRes
    isplitr; · iexact HC
    isplitl [HO]; · iexact HO
    isplitl [H2]; · iexact H2
    iexact Hb
  iintro ⟨HO, Hcb⟩
  ihave H := (step_copy m K (.cp k) nofun c (w := win (bW k)) (w' := win (oq c k)) (z := win (oW (qi c) k)) (q := fullShare.right.right)
    (X := red m c (qi c) k) (congrArg win (oq_eq c k)) rfl .rfl ⟨Or.inl rfl, trivial⟩) $$ [H3 Ho Ht]
  · isplitr; · iexact HC
    isplitl [H3]; · iexact H3
    isplitl [Ho] <;> iassumption
  iapply (wp_wand frame _ _) $$ H
  iintro %_ Hcc
  isplitl [HO]; · iexact HO
  isplitl [Hat]; · iexact Hat
  isplitl [Hx]
  · iapply (Entails.of_eq (show own c (win (xW (qi c) k)) fullShare.left (xblk m c (qi c) k)
      = owns (Val := Elt F) (c : Thread nD τ) (xM.slice (lxq c k) fun _ => rfl) fullShare.left (xblk m c (qi c) k) by
      unfold own; rw [← ex]; rfl).symm); iexact Hx
  isplitl [Hca]; · iexact Hca
  isplitl [Hcb] <;> iassumption

/-! ## The blocks of the diagonal quarter -/

def preG (c : Dev nD) (j : Fin 2) : sProp 𝕄 :=
  iprop(wPre c (.rcv (.g j)) ∗ own c (win (xW (di c) (lo j))) fullShare.left (xblk m c (di c) (lo j))
    ∗ any c (win (oW (di c) (lo j))) ∗ dutyTok ER (kcell (c, .hp j)) 0 0)
def postG (c : Dev nD) (j : Fin 2) : sProp 𝕄 :=
  iprop(atPos ER (kcell (c, .rcv (.g j))) 1 ∅ 0 ∗ own c (win (xW (di c) (lo j))) fullShare.left (xblk m c (di c) (lo j)) ∗ crd c (.hp j))

/-- A turn of the loop over the diagonal quarter: the neighbour's row block is awaited, the sum stored and copied to the result. -/
theorem turnG (c : Dev nD) (j : Fin 2) (l : List (Fin 2)) :
    iprop(ctx m K ∗ owed c obD ∗ preG m c j)
      ⊢ wpc c (chunkD c j) (fun _ => iprop(owed (F := F) c obD ∗ postG m c j)) := by
  unfold preG postG chunkD
  iintro ⟨#HC, HO, Hw, Hx, Ho, Ht⟩
  iapply (wp_seq (step_await m K (.rcv (.g j)) nofun c obD (fun o h => lvC [] o h) (src := xd c j) (dst := gW j) rfl)) $$ [HO Hw]
  · isplitr; · iexact HC
    isplitl [HO] <;> iassumption
  unfold wPost
  iintro ⟨HO, Hat, Hp⟩
  ihave Hp := (Entails.of_eq (show pay m (.rcv (.g j)) c 0
      = owns (Val := Elt F) (c : Thread nD τ) (gM.slice (gRect j) fun _ => rfl) fullShare (xblk m (xn c) (di c) (lo j)) by
    rw [show di c = di (xn c) from (di_xn c).symm]; rfl)) $$ Hp
  iapply (step_load (b := gM) (r := gRect j) (fun _ => rfl) c fullShare (xblk m (xn c) (di c) (lo j))) $$ Hp
  iintro Hp
  have ex := lxd_eq c j
  ihave Hx := (Entails.of_eq (show own c (win (xW (di c) (lo j))) fullShare.left (xblk m c (di c) (lo j))
      = owns (Val := Elt F) (c : Thread nD τ) (xM.slice (lxd c j) fun _ => rfl) fullShare.left (xblk m c (di c) (lo j)) by
    unfold own; rw [← ex]; rfl)) $$ Hx
  iapply (step_load (b := xM) (r := lxd c j) (fun _ => rfl) c fullShare.left (xblk m c (di c) (lo j))) $$ Hx
  iintro Hx
  iapply (step_load (b := gM) (r := gRect j) (fun _ => rfl) c fullShare (xblk m (xn c) (di c) (lo j))) $$ Hp
  iintro Hp
  iapply (step_store (b := gM) (r := gRect j) (w := k0_pay1 (xblk m (xn c) (di c) (lo j)) (xblk m c (di c) (lo j))) (fun _ => rfl) c
    (xblk m (xn c) (di c) (lo j))) $$ Hp
  iintro Hp
  ihave H := (step_copy m K (.hp j) nofun c (w := win (gW j)) (w' := win (od c (lo j))) (z := win (oW (di c) (lo j))) (q := fullShare)
    (X := red m c (di c) (lo j)) (congrArg win (od_eq c (lo j))) rfl .rfl ⟨Or.inl rfl, trivial⟩) $$ [Hp Ho Ht]
  · isplitr; · iexact HC
    isplitl [Hp]; · iexact Hp
    isplitl [Ho] <;> iassumption
  iapply (wp_wand frame _ _) $$ H
  iintro %_ Hcc
  isplitl [HO]; · iexact HO
  isplitl [Hat]; · iexact Hat
  isplitl [Hx]
  · iapply (Entails.of_eq (show own c (win (xW (di c) (lo j))) fullShare.left (xblk m c (di c) (lo j))
      = owns (Val := Elt F) (c : Thread nD τ) (xM.slice (lxd c j) fun _ => rfl) fullShare.left (xblk m c (di c) (lo j)) by
      unfold own; rw [← ex]; rfl).symm); iexact Hx
  iexact Hcc

/-! ## The blocks passed on -/

/-- A turn of the loop that passes blocks on along the second axis: a block from the third neighbour is awaited and sent. -/
theorem turnD (c : Dev nD) (i : Fin 3) (l : List (Fin 3)) :
    iprop(ctx m K ∗ owed c ((i :: l).map (fun i => .xf (.d i)) ++ obE) ∗ wPre c (.rcv (.b (f2 i))) ∗ goRes (.d i) c)
      ⊢ wpc c (passD c i) (fun _ => iprop(owed (F := F) c (l.map (fun i => .xf (.d i)) ++ obE)
          ∗ atPos ER (kcell (c, .rcv (.b (f2 i)))) 1 ∅ 0 ∗ crd c (.snd (.d i)))) := by
  unfold passD
  iintro ⟨#HC, HO, Hw, Hd⟩
  iapply (wp_seq (step_await m K (.rcv (.b (f2 i))) nofun c ((i :: l).map (fun i => .xf (.d i)) ++ obE)
    (fun o h => by
      rcases List.mem_append.mp h with h | h
      · obtain ⟨i', -, rfl⟩ := List.mem_map.mp h; exact (show 3 < 4 by decide)
      · exact lvE o h) (src := bW (f2 i)) (dst := oz c (f2 i)) rfl)) $$ [HO Hw]
  · isplitr; · iexact HC
    isplitl [HO] <;> iassumption
  unfold wPost
  iintro ⟨HO, Hat, Hp⟩
  ihave Hp := (Entails.of_eq (show pay m (.rcv (.b (f2 i))) c 0 = own c (win (oW (zi c) (f2 i))) fullShare (red m (zn c) (zi c) (f2 i)) by
    rw [show red m (zn c) (zi c) (f2 i) = red m (zn c) (qi (zn c)) (f2 i) by rw [qi_zn]]; rfl)) $$ Hp
  ihave H := (step_send m K (.d i) c (l.map (fun i => .xf (.d i)) ++ obE) (w := win (oz c (f2 i))) (w' := win (oz c (f2 i)))
    (congrArg win (oz_eq c (f2 i))) rfl
    ((congrArg win (oz_eq c (f2 i))).trans (show _ = win (oW (di (yn c)) (f2 i)) by rw [di_yn])) rfl rfl ⟨⟨rfl, Or.inl rfl⟩, trivial⟩) $$ [HO Hp Hd]
  · unfold sendRes
    isplitr; · iexact HC
    isplitl [HO]; · iexact HO
    isplitl [Hp]; · iexact Hp
    iexact Hd
  iapply (wp_wand frame _ _) $$ H
  iintro %_ ⟨HO, Hc⟩
  isplitl [HO]; · iexact HO
  isplitl [Hat] <;> iassumption

/-- A turn of the loop that passes blocks on along the third axis: a block from the second neighbour is awaited and sent. -/
theorem turnE (c : Dev nD) (i : Fin 3) (l : List (Fin 3)) :
    iprop(ctx m K ∗ owed c ((i :: l).map (fun i => .xf (.e i))) ∗ wPre c (.rcv (.a (f5 i))) ∗ goRes (.e i) c)
      ⊢ wpc c (passE c i) (fun _ => iprop(owed (F := F) c (l.map (fun i => .xf (.e i)))
          ∗ atPos ER (kcell (c, .rcv (.a (f5 i)))) 1 ∅ 0 ∗ crd c (.snd (.e i)))) := by
  unfold passE
  iintro ⟨#HC, HO, Hw, Hd⟩
  iapply (wp_seq (step_await m K (.rcv (.a (f5 i))) nofun c ((i :: l).map (fun i => .xf (.e i)))
    (fun o h => by obtain ⟨i', -, rfl⟩ := List.mem_map.mp h; exact (show 3 < 4 by decide)) (src := bW (f5 i)) (dst := oy c (f5 i)) rfl)) $$ [HO Hw]
  · isplitr; · iexact HC
    isplitl [HO] <;> iassumption
  unfold wPost
  iintro ⟨HO, Hat, Hp⟩
  ihave Hp := (Entails.of_eq (show pay m (.rcv (.a (f5 i))) c 0 = own c (win (oW (yi c) (f5 i))) fullShare (red m (yn c) (yi c) (f5 i)) by
    rw [show red m (yn c) (yi c) (f5 i) = red m (yn c) (qi (yn c)) (f5 i) by rw [qi_yn]]; rfl)) $$ Hp
  ihave H := (step_send m K (.e i) c (l.map (fun i => .xf (.e i))) (w := win (oy c (f5 i))) (w' := win (oy c (f5 i)))
    (congrArg win (oy_eq c (f5 i))) rfl
    ((congrArg win (oy_eq c (f5 i))).trans (show _ = win (oW (di (zn c)) (f5 i)) by rw [di_zn])) rfl rfl ⟨⟨rfl, Or.inl rfl⟩, trivial⟩) $$ [HO Hp Hd]
  · unfold sendRes
    isplitr; · iexact HC
    isplitl [HO]; · iexact HO
    isplitl [Hp]; · iexact Hp
    iexact Hd
  iapply (wp_wand frame _ _) $$ H
  iintro %_ ⟨HO, Hc⟩
  isplitl [HO]; · iexact HO
  isplitl [Hat] <;> iassumption

/-! ## The last waits -/

/-- The cell of a last wait. -/
def lcell : Last → Cell
  | .aR k => .rcv (.a k) | .bR k => .rcv (.b k) | .dR i => .rcv (.d i) | .eR i => .rcv (.e i)
  | .xS k => .snd (.x k) | .gS j => .snd (.g j) | .aS k => .snd (.a k) | .bS k => .snd (.b k) | .dS i => .snd (.d i) | .eS i => .snd (.e i)
  | .cS k => .cp k | .hS j => .hp j

/-- A turn of the last waits, when nothing is owed any more, gives the payload of the cell waited for. -/
theorem turnL (c : Dev nD) (i : Last) (l : List Last) :
    iprop(ctx m K ∗ owed c [] ∗ wPre c (lcell i)) ⊢ wpc c (last c i) (fun _ => iprop(owed (F := F) c [] ∗ wPost m c (lcell i))) := by
  cases i with
  | aR k => exact step_await m K (.rcv (.a k)) nofun c [] (fun _ => nofun) rfl
  | bR k => exact step_await m K (.rcv (.b k)) nofun c [] (fun _ => nofun) rfl
  | dR i => exact step_await m K (.rcv (.d i)) nofun c [] (fun _ => nofun) rfl
  | eR i => exact step_await m K (.rcv (.e i)) nofun c [] (fun _ => nofun) rfl
  | xS k => exact step_await m K (.snd (.x k)) nofun c [] (fun _ => nofun) rfl
  | gS j => exact step_await m K (.snd (.g j)) nofun c [] (fun _ => nofun) rfl
  | aS k => exact step_await m K (.snd (.a k)) nofun c [] (fun _ => nofun) rfl
  | bS k => exact step_await m K (.snd (.b k)) nofun c [] (fun _ => nofun) rfl
  | dS i => exact step_await m K (.snd (.d i)) nofun c [] (fun _ => nofun) rfl
  | eS i => exact step_await m K (.snd (.e i)) nofun c [] (fun _ => nofun) rfl
  | cS k => exact step_await m K (.cp k) nofun c [] (fun _ => nofun) rfl
  | hS j => exact step_await m K (.hp j) nofun c [] (fun _ => nofun) rfl

end Cert.KernelIdeal.P
end
-- ==== Proof.Ideal.Windows.lean ====
/-
# The arrays as row blocks

Each array is the separating conjunction of its row blocks, grouped by the four quarters as one device numbers them;
and the result as the row blocks put it together.
-/
module

public import proofs.«01_k».proof.Proof.Ideal.Turns

@[expose] public section

noncomputable section

namespace Cert.KernelIdeal.P

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Bands of 256 rows -/

section Bands
variable {M : ℕ} {T : Type} [Fintype T] [DecidableEq T] (o : T → ℕ)
  (h : ∀ t, ∀ a : Fin 2, (![o t, 0] : Fin 2 → ℕ) a + S256x1024.size a ≤ (⟨2, ![M, 1024]⟩ : Shape).size a)

/-- The band of 256 rows from row `o t` on. -/
abbrev band (t : T) : Rect (⟨2, ![M, 1024]⟩ : Shape) := Rect.unit (s := ⟨2, ![M, 1024]⟩) ![o t, 0] S256x1024.size (h t)

/-- Bands with different starts a multiple of 256 apart are disjoint. -/
theorem band_disjoint (hn : ∀ t t', t ≠ t' → o t + 256 ≤ o t' ∨ o t' + 256 ≤ o t) (t t' : T) (ht : t ≠ t') :
    Disjoint (band o h t).set (band o h t').set := by
  rw [Finset.disjoint_left]
  intro i hi hi'
  have h1 := Rect.mem_set_unit.mp hi 0
  have h2 := Rect.mem_set_unit.mp hi' 0
  have e : ∀ t, (![o t, 0] : Fin 2 → ℕ) 0 = o t := fun _ => rfl
  have e' : S256x1024.size 0 = 256 := rfl
  rw [e, e'] at h1 h2
  rcases hn t t' ht with h | h <;> omega

/-- Bands that reach every row cover the array. -/
theorem band_cover (hc : ∀ i < M, ∃ t, o t ≤ i ∧ i < o t + 256) :
    (Finset.univ : Finset T).biUnion (fun t => (band o h t).set) = Finset.univ := by
  refine Finset.eq_univ_of_forall fun i => ?_
  obtain ⟨t, h1, h2⟩ := hc (i 0).val (i 0).isLt
  refine Finset.mem_biUnion.mpr ⟨t, Finset.mem_univ t, Rect.mem_set_unit.mpr fun a => ?_⟩
  match a with
  | 0 => exact ⟨h1, h2⟩
  | 1 => exact ⟨Nat.zero_le _, by have := (i 1).isLt; show (i 1).val < 0 + 1024; rw [Nat.zero_add]; exact this⟩

end Bands

/-- The row blocks of the argument's shape, which is the result's, are disjoint. -/
theorem R_disjoint : ∀ t t', t ≠ t' → Disjoint (R t).set (R t').set :=
  band_disjoint (M := 8192) (fun p : Fin 4 × Fin 8 => 2048 * p.1.val + 256 * p.2.val) (fun p => inb_R p.1 p.2) fun t t' h => by
    have h1 := t.2.isLt; have h2 := t'.2.isLt
    have : t.1.val ≠ t'.1.val ∨ t.2.val ≠ t'.2.val := by
      by_contra hc
      push Not at hc
      exact h (Prod.ext (Fin.ext hc.1) (Fin.ext hc.2))
    omega
/-- The row blocks of the argument's shape cover it. -/
theorem R_cover : (Finset.univ : Finset (Fin 4 × Fin 8)).biUnion (fun t => (R t).set) = Finset.univ :=
  band_cover (M := 8192) (fun p : Fin 4 × Fin 8 => 2048 * p.1.val + 256 * p.2.val) (fun p => inb_R p.1 p.2) fun i hi =>
    ⟨(⟨i / 2048, by omega⟩, ⟨(i / 256) % 8, by omega⟩), by dsimp only; omega, by dsimp only; omega⟩
/-- The row blocks of the first receive buffer are disjoint. -/
theorem b_disjoint : ∀ t t', t ≠ t' → Disjoint (bRect t).set (bRect t').set :=
  band_disjoint (M := 2048) (fun k : Fin 8 => 256 * k.val) inb_own fun t t' h => by have := Fin.val_ne_of_ne h; omega
/-- The row blocks of the first receive buffer cover it. -/
theorem b_cover : (Finset.univ : Finset (Fin 8)).biUnion (fun t => (bRect t).set) = Finset.univ :=
  band_cover (M := 2048) (fun k : Fin 8 => 256 * k.val) inb_own fun i hi => ⟨⟨i / 256, by omega⟩, by dsimp only; omega, by dsimp only; omega⟩
/-- The row blocks of the second receive buffer are disjoint. -/
theorem g_disjoint : ∀ t t', t ≠ t' → Disjoint (gRect t).set (gRect t').set :=
  band_disjoint (M := 512) (fun k : Fin 2 => 256 * k.val) inb_diag fun t t' h => by have := Fin.val_ne_of_ne h; omega
/-- The row blocks of the second receive buffer cover it. -/
theorem g_cover : (Finset.univ : Finset (Fin 2)).biUnion (fun t => (gRect t).set) = Finset.univ :=
  band_cover (M := 512) (fun k : Fin 2 => 256 * k.val) inb_diag fun i hi => ⟨⟨i / 256, by omega⟩, by dsimp only; omega, by dsimp only; omega⟩

/-! ## The quarters as a device numbers them -/

def qL (c : Dev nD) : List (Fin 4 × Fin 8) := all8.map (qi c, ·) ++ (all8.map (yi c, ·) ++ (all8.map (zi c, ·) ++ all8.map (di c, ·)))
/-- A device's list of the row blocks has none twice. -/
theorem qL_nodup : ∀ c, (qL c).Nodup := by decide +kernel
/-- A device's list of the row blocks has all of them. -/
theorem mem_qL : ∀ c p, p ∈ qL c := by decide +kernel

/-- A family over the row blocks, by quarter. -/
def quarters (c : Dev nD) (Φ : Fin 4 → Fin 8 → sProp 𝕄) : sProp 𝕄 :=
  iprop(sepL (Φ (qi c)) all8 ∗ sepL (Φ (yi c)) all8 ∗ sepL (Φ (zi c)) all8 ∗ sepL (Φ (di c)) all8)

/-- The conjunction over all row blocks, by the four quarters as a device numbers them. -/
theorem quarters_iff (c : Dev nD) (Φ : Fin 4 → Fin 8 → sProp 𝕄) :
    bigSep Finset.univ (fun p : Fin 4 × Fin 8 => Φ p.1 p.2) ⊣⊢ quarters c Φ := by
  have e1 := bigSep_list (fun p : Fin 4 × Fin 8 => Φ p.1 p.2) (qL c) (qL_nodup c) (mem_qL c)
  have h : ∀ Q, sepL (fun p : Fin 4 × Fin 8 => Φ p.1 p.2) (all8.map (Q, ·)) = sepL (Φ Q) all8 := fun Q => sepL_map _ _ _
  have e2 : sepL (fun p : Fin 4 × Fin 8 => Φ p.1 p.2) (qL c) ⊣⊢ quarters c Φ := by
    unfold qL quarters
    rw [← h, ← h, ← h, ← h]
    refine ⟨(sepL_append _ _ _).1.trans (sep_mono_right ((sepL_append _ _ _).1.trans (sep_mono_right (sepL_append _ _ _).1))), ?_⟩
    exact (sep_mono_right ((sep_mono_right (sepL_append _ _ _).2).trans (sepL_append _ _ _).2)).trans (sepL_append _ _ _).2
  exact ⟨e1.1.trans e2.1, e2.2.trans e1.2⟩

/-- The eight row blocks: the first two, three, three. -/
theorem sepL_all8 (Φ : Fin 8 → sProp 𝕄) :
    sepL Φ all8 ⊣⊢ iprop(sepL (fun j => Φ (lo j)) all2 ∗ sepL (fun i => Φ (f2 i)) all3 ∗ sepL (fun i => Φ (f5 i)) all3) := by
  rw [show all8 = all2.map lo ++ (all3.map f2 ++ all3.map f5) from rfl, ← sepL_map Φ lo, ← sepL_map Φ f2, ← sepL_map Φ f5]
  exact ⟨(sepL_append _ _ _).1.trans (sep_mono_right (sepL_append _ _ _).1), (sep_mono_right (sepL_append _ _ _).2).trans (sepL_append _ _ _).2⟩

/-! ## The arrays -/

/-- The staged argument is its row blocks, at any share. -/
theorem x_split (c : Dev nD) (q : PosShare TreeShare) :
    (owns (Val := Elt F) (c : Thread nD τ) xM q (xstg m c) : sProp 𝕄) ⊣⊢ quarters c fun Q k => own c (win (xW Q k)) q (xblk m c Q k) :=
  ⟨(owns_rects (c : Thread nD τ) xM q R (fun _ _ => rfl) R_disjoint R_cover (xstg m c)).trans
      (quarters_iff c fun Q k => own c (win (xW Q k)) q (xblk m c Q k)).1,
   (quarters_iff c fun Q k => own c (win (xW Q k)) q (xblk m c Q k)).2.trans
      (owns_of_rects (c : Thread nD τ) xM q R (fun _ _ => rfl) R_disjoint R_cover (xstg m c))⟩

/-- The result, at given contents, is its row blocks. -/
theorem o_split (c : Dev nD) (X : S8192x1024.Idx → Elt F .f32) :
    (owns (Val := Elt F) (c : Thread nD τ) oM fullShare X : sProp 𝕄)
      ⊣⊢ quarters c fun Q k => own c (win (oW Q k)) fullShare (fun j => X ((R (Q, k)).emb j)) :=
  ⟨(owns_rects (c : Thread nD τ) oM fullShare R (fun _ _ => rfl) R_disjoint R_cover X).trans
      (quarters_iff c fun Q k => own c (win (oW Q k)) fullShare (fun j => X ((R (Q, k)).emb j))).1,
   (quarters_iff c fun Q k => own c (win (oW Q k)) fullShare (fun j => X ((R (Q, k)).emb j))).2.trans
      (owns_of_rects (c : Thread nD τ) oM fullShare R (fun _ _ => rfl) R_disjoint R_cover X)⟩

/-- A receive buffer, at any contents, is its row blocks at any contents. -/
theorem b_split (c : Dev nD) (X : S2048x1024.Idx → Elt F .f32) :
    (owns (Val := Elt F) (c : Thread nD τ) bM fullShare X : sProp 𝕄) ⊢ sepL (fun k => any (F := F) c (win (bW k))) all8 :=
  (owns_rects (c : Thread nD τ) bM fullShare bRect (fun _ _ => rfl) b_disjoint b_cover X).trans
    ((bigSep_list (fun k => own (F := F) c (win (bW k)) fullShare (fun j => X ((bRect k).emb j))) all8 (by decide) (by decide)).1.trans
      (sepL_mono (fun k => by iintro H; iexists (fun j => X ((bRect k).emb j)); iexact H) all8))
/-- The second receive buffer gives its row blocks, at any contents. -/
theorem g_split (c : Dev nD) (X : S512x1024.Idx → Elt F .f32) :
    (owns (Val := Elt F) (c : Thread nD τ) gM fullShare X : sProp 𝕄) ⊢ sepL (fun k => any (F := F) c (win (gW k))) all2 :=
  (owns_rects (c : Thread nD τ) gM fullShare gRect (fun _ _ => rfl) g_disjoint g_cover X).trans
    ((bigSep_list (fun k => own (F := F) c (win (gW k)) fullShare (fun j => X ((gRect k).emb j))) all2 (by decide) (by decide)).1.trans
      (sepL_mono (fun k => by iintro H; iexists (fun j => X ((gRect k).emb j)); iexact H) all2))

/-- Row `r` of an array of bands of 256 rows: its place within its band. -/
def place {M : ℕ} (i : (⟨2, ![M, 1024]⟩ : Shape).Idx) : S256x1024.Idx := fun a => match a with
  | ⟨0, _⟩ => ⟨(i 0).val % 256, Nat.mod_lt _ (by decide)⟩
  | ⟨1, _⟩ => ⟨(i 1).val, (i 1).isLt⟩
  | ⟨n + 2, h⟩ => absurd h (by simp)

/-- Blocks put together by row. -/
def glue {M : ℕ} {T : Type} (t : ℕ → T) (B : T → Blk F) : (⟨2, ![M, 1024]⟩ : Shape).Idx → Elt F .f32 :=
  fun i => B (t ((i 0).val / 256)) (place i)

/-- In an array put together of blocks, the band at a block's place is that block. -/
theorem glue_band {M : ℕ} {T : Type} [Fintype T] (o : T → ℕ) (h) (t : ℕ → T) (B : T → Blk F) (x : T) (hx : ∀ r < 256, t ((o x + r) / 256) = x ∧ (o x + r) % 256 = r) :
    (fun j => glue (M := M) t B ((band o h x).emb j)) = B x := by
  funext j
  have e0 : ((band o h x).emb j 0).val = o x + (j 0).val := by
    rw [Rect.emb_apply]; show o x + 1 * (j 0).val = _; omega
  have e1 : ((band o h x).emb j 1).val = 0 + (j 1).val := by
    rw [Rect.emb_apply]; show 0 + 1 * (j 1).val = _; omega
  obtain ⟨h1, h2⟩ := hx (j 0).val (j 0).isLt
  unfold glue
  rw [e0, h1]
  congr 1
  funext a
  apply Fin.ext
  match a with
  | 0 => show ((band o h x).emb j 0).val % 256 = _; rw [e0, h2]
  | 1 => show ((band o h x).emb j 1).val = _; rw [e1, Nat.zero_add]

/-- The receive buffers' row blocks, at given contents, are the buffers at some contents. -/
theorem b_join (c : Dev nD) (B : Fin 8 → Blk F) :
    sepL (fun k => own (F := F) c (win (bW k)) fullShare (B k)) all8
      ⊢ (iprop(∃ X : S2048x1024.Idx → Elt F .f32, owns (Val := Elt F) (c : Thread nD τ) bM fullShare X) : sProp 𝕄) := by
  refine (bigSep_list _ all8 (by decide) (by decide)).2.trans ?_
  have e : (fun k => own (F := F) c (win (bW k)) fullShare (B k)) = fun k => own (F := F) c (win (bW k)) fullShare
      (fun j => glue (M := 2048) (fun n => (⟨n % 8, Nat.mod_lt _ (by decide)⟩ : Fin 8)) B ((bRect k).emb j)) := funext fun k =>
    congrArg (own (F := F) c (win (bW k)) fullShare) (glue_band (M := 2048) (fun k : Fin 8 => 256 * k.val) inb_own _ B k fun r hr =>
      ⟨Fin.ext (by have := k.isLt; show (256 * k.val + r) / 256 % 8 = k.val; omega), by omega⟩).symm
  rw [e]
  iintro H
  iexists glue (M := 2048) (fun n => (⟨n % 8, Nat.mod_lt _ (by decide)⟩ : Fin 8)) B
  iapply (owns_of_rects (c : Thread nD τ) bM fullShare bRect (fun _ _ => rfl) b_disjoint b_cover
    (glue (M := 2048) (fun n => (⟨n % 8, Nat.mod_lt _ (by decide)⟩ : Fin 8)) B))
  iexact H
/-- The row blocks of the second receive buffer, at given contents, are the buffer at some contents. -/
theorem g_join (c : Dev nD) (B : Fin 2 → Blk F) :
    sepL (fun k => own (F := F) c (win (gW k)) fullShare (B k)) all2
      ⊢ (iprop(∃ X : S512x1024.Idx → Elt F .f32, owns (Val := Elt F) (c : Thread nD τ) gM fullShare X) : sProp 𝕄) := by
  refine (bigSep_list _ all2 (by decide) (by decide)).2.trans ?_
  have e : (fun k => own (F := F) c (win (gW k)) fullShare (B k)) = fun k => own (F := F) c (win (gW k)) fullShare
      (fun j => glue (M := 512) (fun n => (⟨n % 2, Nat.mod_lt _ (by decide)⟩ : Fin 2)) B ((gRect k).emb j)) := funext fun k =>
    congrArg (own (F := F) c (win (gW k)) fullShare) (glue_band (M := 512) (fun k : Fin 2 => 256 * k.val) inb_diag _ B k fun r hr =>
      ⟨Fin.ext (by have := k.isLt; show (256 * k.val + r) / 256 % 2 = k.val; omega), by omega⟩).symm
  rw [e]
  iintro H
  iexists glue (M := 512) (fun n => (⟨n % 2, Nat.mod_lt _ (by decide)⟩ : Fin 2)) B
  iapply (owns_of_rects (c : Thread nD τ) gM fullShare gRect (fun _ _ => rfl) g_disjoint g_cover
    (glue (M := 512) (fun n => (⟨n % 2, Nat.mod_lt _ (by decide)⟩ : Fin 2)) B))
  iexact H

/-! ## The result -/

/-- The device whose sum a row block of the result holds. -/
def who (c : Dev nD) (Q : Fin 4) (k : Fin 8) : Dev nD :=
  if Q = qi c then c else if Q = yi c then yn c else if Q = zi c then zn c
  else if k.val < 2 then c else if k.val < 5 then zn (yn c) else yn (zn c)
/-- The own quarter's sums are made by the device itself. -/
theorem who_q : ∀ c k, who c (qi c) k = c := by decide +kernel
/-- The sums of the `y` quarter are made by the second neighbour. -/
theorem who_y : ∀ c k, who c (yi c) k = yn c := by decide +kernel
/-- The sums of the `z` quarter are made by the third neighbour. -/
theorem who_z : ∀ c k, who c (zi c) k = zn c := by decide +kernel
/-- The first two sums of the diagonal quarter are made by the device itself. -/
theorem who_lo : ∀ c j, who c (di c) (lo j) = c := by decide +kernel
/-- The middle three sums of the diagonal quarter are made by the second neighbour's third neighbour. -/
theorem who_f2 : ∀ c i, who c (di c) (f2 i) = zn (yn c) := by decide +kernel
/-- The last three sums of the diagonal quarter are made by the third neighbour's second neighbour. -/
theorem who_f5 : ∀ c i, who c (di c) (f5 i) = yn (zn c) := by decide +kernel

/-- A row block of the result, and the result. -/
def fin (c : Dev nD) (Q : Fin 4) (k : Fin 8) : Blk F := red m (who c Q k) Q k
def bandOf (n : ℕ) : Fin 4 × Fin 8 := (⟨n / 8 % 4, Nat.mod_lt _ (by decide)⟩, ⟨n % 8, Nat.mod_lt _ (by decide)⟩)
def outC (c : Dev nD) : S8192x1024.Idx → Elt F .f32 := glue (M := 8192) bandOf fun p => fin m c p.1 p.2

/-- A row block of the device's final result is the final row block `fin` there. -/
theorem outC_band (c : Dev nD) (Q : Fin 4) (k : Fin 8) : (fun j => outC m c ((R (Q, k)).emb j)) = fin m c Q k :=
  glue_band (M := 8192) (fun p : Fin 4 × Fin 8 => 2048 * p.1.val + 256 * p.2.val) (fun p => inb_R p.1 p.2) bandOf (fun p => fin m c p.1 p.2) (Q, k)
    fun r hr => ⟨Prod.ext (Fin.ext (by have := k.isLt; have := Q.isLt; show (2048 * Q.val + 256 * k.val + r) / 256 / 8 % 4 = Q.val; omega))
      (Fin.ext (by have := k.isLt; show (2048 * Q.val + 256 * k.val + r) / 256 % 8 = k.val; omega)), by dsimp only; omega⟩

/-- The result's row blocks are the result. -/
theorem o_join (c : Dev nD) :
    quarters c (fun Q k => own c (win (oW Q k)) fullShare (fin m c Q k)) ⊢ (owns (Val := Elt F) (c : Thread nD τ) oM fullShare (outC m c) : sProp 𝕄) := by
  have e : (fun Q k => own c (win (oW Q k)) fullShare (fin m c Q k)) = fun Q k => own c (win (oW Q k)) fullShare (fun j => outC m c ((R (Q, k)).emb j)) :=
    funext fun Q => funext fun k => congrArg _ (outC_band m c Q k).symm
  rw [e]
  exact (o_split c (outC m c)).2

end Cert.KernelIdeal.P
end
-- ==== Proof.Ideal.Body.lean ====
/-
# The body of the kernel

Every device, from its start, runs the body to its end: it owes nothing, its semaphores are at zero, its argument is
unchanged, and its result is `outC`.
-/
module

public import proofs.«01_k».proof.Proof.Ideal.Windows

@[expose] public section

noncomputable section

namespace Cert.KernelIdeal.P

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-! ## Lists of cells and of transfers, split -/

/-- Assertions that entail each other are equal. -/
theorem eqv {P Q : sProp 𝕄} (h : P ⊣⊢ Q) : P = Q := BI.equiv_iff.mp ⟨h.1, h.2⟩
/-- The conjunction over two lists appended is the conjunction of theirs, as an equation. -/
theorem sepL_cat {ι : Type} (Φ : ι → sProp 𝕄) (l l' : List ι) : sepL Φ (l ++ l') = iprop(sepL Φ l ∗ sepL Φ l') := eqv (sepL_append Φ l l')
/-- Two families over one list are one family of pairs. -/
theorem zip {ι : Type} (Φ Ψ : ι → sProp 𝕄) (l : List ι) : iprop(sepL Φ l ∗ sepL Ψ l) ⊢ sepL (fun i => iprop(Φ i ∗ Ψ i)) l := (sepL_sep Φ Ψ l).2
/-- A family of pairs over a list is two families over it. -/
theorem unzip {ι : Type} (Φ Ψ : ι → sProp 𝕄) (l : List ι) : sepL (fun i => iprop(Φ i ∗ Ψ i)) l ⊢ iprop(sepL Φ l ∗ sepL Ψ l) := (sepL_sep Φ Ψ l).1

/-- The conjunction over all cells, by kind: the barrier, the send cells, the receive cells, the cells of the local copies. -/
theorem cells_split (Φ : Cell → sProp 𝕄) : sepL Φ allC = iprop(Φ .bar ∗ sepL (fun t => Φ (.snd t)) allX ∗ sepL (fun t => Φ (.rcv t)) allX
    ∗ sepL (fun k => Φ (.cp k)) all8 ∗ sepL (fun j => Φ (.hp j)) all2) := by
  show iprop(Φ .bar ∗ sepL Φ (allX.map .snd ++ (allX.map .rcv ++ (all8.map .cp ++ all2.map .hp)))) = _
  rw [sepL_cat, sepL_cat, sepL_cat, sepL_map, sepL_map, sepL_map, sepL_map]

/-- The conjunction over the transfers of the first direction, by kind. -/
theorem dir0 (Φ : Xf → sProp 𝕄) : sepL Φ (dirL 0) = iprop(sepL (fun k => Φ (.x k)) all8 ∗ sepL (fun j => Φ (.g j)) all2) := by
  show sepL Φ (all8.map .x ++ all2.map .g) = _
  rw [sepL_cat, sepL_map, sepL_map]
/-- The conjunction over the transfers of the second direction, by kind. -/
theorem dir1 (Φ : Xf → sProp 𝕄) : sepL Φ (dirL 1) = iprop(sepL (fun k => Φ (.a k)) all8 ∗ sepL (fun j => Φ (.d j)) all3) := by
  show sepL Φ (all8.map .a ++ all3.map .d) = _
  rw [sepL_cat, sepL_map, sepL_map]
/-- The conjunction over the transfers of the third direction, by kind. -/
theorem dir2 (Φ : Xf → sProp 𝕄) : sepL Φ (dirL 2) = iprop(sepL (fun k => Φ (.b k)) all8 ∗ sepL (fun j => Φ (.e j)) all3) := by
  show sepL Φ (all8.map .b ++ all3.map .e) = _
  rw [sepL_cat, sepL_map, sepL_map]
/-- The conjunction over all transfers, by direction and kind. -/
theorem xfers (Φ : Xf → sProp 𝕄) : sepL Φ allX = iprop((sepL (fun k => Φ (.x k)) all8 ∗ sepL (fun j => Φ (.g j)) all2)
    ∗ (sepL (fun k => Φ (.a k)) all8 ∗ sepL (fun j => Φ (.d j)) all3) ∗ (sepL (fun k => Φ (.b k)) all8 ∗ sepL (fun j => Φ (.e j)) all3)) := by
  rw [allX, sepL_cat, sepL_cat, dir0, dir1, dir2]
/-- The conjunction over the sends of the first loop: the own quarter's blocks and the diagonal quarter's first two. -/
theorem xl_split (Φ : Fin 8 ⊕ Fin 2 → sProp 𝕄) : sepL Φ (all8.map .inl ++ all2.map .inr) = iprop(sepL (fun k => Φ (.inl k)) all8 ∗ sepL (fun j => Φ (.inr j)) all2) := by
  rw [sepL_cat, sepL_map, sepL_map]
/-- The conjunction over eight row blocks: the first two, the next three, the last three. -/
theorem eight (Φ : Fin 8 → sProp 𝕄) :
    sepL Φ all8 = iprop(sepL (fun j => Φ (lo j)) all2 ∗ sepL (fun i => Φ (f2 i)) all3 ∗ sepL (fun i => Φ (f5 i)) all3) := eqv (sepL_all8 Φ)

/-- The waits for what arrived, by kind. -/
def lastR' : List Last := all2.map (fun j => .aR (lo j)) ++ (all3.map (fun i => .aR (f2 i)) ++ (all2.map (fun j => .bR (lo j))
  ++ (all3.map (fun i => .bR (f5 i)) ++ (all3.map .dR ++ all3.map .eR))))
deriving instance DecidableEq for Last
/-- The order by kind is a rearrangement of the order of the waits. -/
theorem lastR_perm : lastR.Perm lastR' := by decide
/-- The conjunction over the waits for what arrived, by kind. -/
theorem lastR_split (Φ : Last → sProp 𝕄) : sepL Φ lastR' = iprop(sepL (fun j => Φ (.aR (lo j))) all2 ∗ sepL (fun j => Φ (.aR (f2 j))) all3
    ∗ sepL (fun j => Φ (.bR (lo j))) all2 ∗ sepL (fun j => Φ (.bR (f5 j))) all3 ∗ sepL (fun j => Φ (.dR j)) all3 ∗ sepL (fun j => Φ (.eR j)) all3) := by
  rw [lastR', sepL_cat, sepL_cat, sepL_cat, sepL_cat, sepL_cat, sepL_map, sepL_map, sepL_map, sepL_map, sepL_map, sepL_map]
/-- The conjunction over the waits for sends and local copies, by kind. -/
theorem lastS_split (Φ : Last → sProp 𝕄) : sepL Φ lastS = iprop(sepL (fun j => Φ (.xS j)) all8 ∗ sepL (fun j => Φ (.gS j)) all2
    ∗ sepL (fun j => Φ (.aS j)) all8 ∗ sepL (fun j => Φ (.bS j)) all8 ∗ sepL (fun j => Φ (.dS j)) all3 ∗ sepL (fun j => Φ (.eS j)) all3
    ∗ sepL (fun j => Φ (.cS j)) all8 ∗ sepL (fun j => Φ (.hS j)) all2) := by
  rw [show lastS = all8.map .xS ++ (all2.map .gS ++ (all8.map .aS ++ (all8.map .bS ++ (all3.map .dS ++ (all3.map .eS ++ (all8.map .cS ++ all2.map .hS)))))) from rfl,
    sepL_cat, sepL_cat, sepL_cat, sepL_cat, sepL_cat, sepL_cat, sepL_cat, sepL_map, sepL_map, sepL_map, sepL_map, sepL_map, sepL_map, sepL_map, sepL_map]

/-! ## The start and the end -/

abbrev at0 (c : Dev nD) (k : Cell) : sProp 𝕄 := atPos ER (kcell (c, k)) 0 ∅ 0
abbrev at1 (c : Dev nD) (k : Cell) : sProp 𝕄 := atPos ER (kcell (c, k)) 1 ∅ 0
abbrev tok (c : Dev nD) (k : Cell) : sProp 𝕄 := dutyTok ER (kcell (c, k)) 0 0

/-- A device's positions, credits and tokens at the start. -/
def startRes (c : Dev nD) : sProp 𝕄 :=
  iprop(sepL (at0 (F := F) c) allC ∗ cred (tallyAt (kcell (c, .bar)) () 3) ∗ sepL (fun t => crd c (.rcv t)) allX
    ∗ (dutyTok ER (kcell (nb 0 c, .bar)) 0 0 ∗ dutyTok ER (kcell (nb 1 c, .bar)) 0 1 ∗ dutyTok ER (kcell (nb 2 c, .bar)) 0 2)
    ∗ sepL (fun t => tks t c) allX ∗ sepL (fun k => tok c (.cp k)) all8 ∗ sepL (fun j => tok c (.hp j)) all2)

/-- The buffers at the start: the staged argument, the others at any contents. -/
def bufs0 (c : Dev nD) : sProp 𝕄 :=
  iprop(owns (Val := Elt F) (c : Thread nD τ) xM fullShare (xstg m c)
    ∗ (∃ X : S8192x1024.Idx → Elt F .f32, owns (Val := Elt F) (c : Thread nD τ) oM fullShare X)
    ∗ (∃ X : S2048x1024.Idx → Elt F .f32, owns (Val := Elt F) (c : Thread nD τ) bM fullShare X)
    ∗ ∃ X : S512x1024.Idx → Elt F .f32, owns (Val := Elt F) (c : Thread nD τ) gM fullShare X)
/-- The buffers at the end: the result too is determined. -/
def bufs1 (c : Dev nD) : sProp 𝕄 :=
  iprop(owns (Val := Elt F) (c : Thread nD τ) xM fullShare (xstg m c)
    ∗ owns (Val := Elt F) (c : Thread nD τ) oM fullShare (outC m c)
    ∗ (∃ X : S2048x1024.Idx → Elt F .f32, owns (Val := Elt F) (c : Thread nD τ) bM fullShare X)
    ∗ ∃ X : S512x1024.Idx → Elt F .f32, owns (Val := Elt F) (c : Thread nD τ) gM fullShare X)

/-- The counter of a cell at zero. -/
abbrev zero (c : Dev nD) (k : Cell) : sProp 𝕄 := semVal (kcell (c, k)) 0

/-- Cells past their only round give their counters back, at zero. -/
theorem close_all (c : Dev nD) : ∀ l : List Cell, iprop(ctx m K ∗ sepL (at1 c) l) ⊢ iprop(|={Set.univ}=> sepL (zero (F := F) c) l)
  | [] => by
    iintro -
    imodintro
    unfold sepL
    iempintro
  | k :: l => by
    have ih := close_all c l
    show iprop(ctx m K ∗ at1 c k ∗ sepL (at1 c) l) ⊢ iprop(|={Set.univ}=> (zero (F := F) c k ∗ sepL (zero c) l))
    iintro ⟨#HC, Hk, Hl⟩
    imod (Rounds.cell_close ER (Rd m) (Set.mem_univ (K (c, k))) (fun h => h) (R := 1) (duties_later m (kcell (c, k)))) $$ [Hk] with Hz
    · isplitr; · iapply (ctx_inv m K (c, k)); iexact HC
      iexact Hk
    imod (ih) $$ [Hl] with Hl
    · isplitr; · iexact HC
      iexact Hl
    imodintro
    isplitl [Hz] <;> iassumption

/-! ## What the payloads are -/

/-- A completed receive `a` is a final row block of the second neighbour's quarter. -/
theorem pay_a (c : Dev nD) (k : Fin 8) : pay m (.rcv (.a k)) c 0 ⊢ own c (win (oW (yi c) k)) fullShare (fin m c (yi c) k) :=
  Entails.of_eq (by unfold fin; rw [who_y, show red m (yn c) (yi c) k = red m (yn c) (qi (yn c)) k by rw [qi_yn]]; rfl)
/-- A completed receive `b` is a final row block of the third neighbour's quarter. -/
theorem pay_b (c : Dev nD) (k : Fin 8) : pay m (.rcv (.b k)) c 0 ⊢ own c (win (oW (zi c) k)) fullShare (fin m c (zi c) k) :=
  Entails.of_eq (by unfold fin; rw [who_z, show red m (zn c) (zi c) k = red m (zn c) (qi (zn c)) k by rw [qi_zn]]; rfl)
/-- A completed receive `d` is a final row block of the diagonal quarter, one of the middle three. -/
theorem pay_d (c : Dev nD) (i : Fin 3) : pay m (.rcv (.d i)) c 0 ⊢ own c (win (oW (di c) (f2 i))) fullShare (fin m c (di c) (f2 i)) :=
  Entails.of_eq (by unfold fin; rw [who_f2, show red m (zn (yn c)) (di c) (f2 i) = red m (zn (yn c)) (zi (yn c)) (f2 i) by rw [zi_yn]]; rfl)
/-- A completed receive `e` is a final row block of the diagonal quarter, one of the last three. -/
theorem pay_e (c : Dev nD) (i : Fin 3) : pay m (.rcv (.e i)) c 0 ⊢ own c (win (oW (di c) (f5 i))) fullShare (fin m c (di c) (f5 i)) :=
  Entails.of_eq (by unfold fin; rw [who_f5, show red m (yn (zn c)) (di c) (f5 i) = red m (yn (zn c)) (yi (zn c)) (f5 i) by rw [yi_zn]]; rfl)
/-- A completed send `d` gives back the final row block that was passed on. -/
theorem pay_sd (c : Dev nD) (i : Fin 3) : pay m (.snd (.d i)) c 0 ⊢ own c (win (oW (zi c) (f2 i))) fullShare (fin m c (zi c) (f2 i)) :=
  Entails.of_eq (by unfold fin; rw [who_z]; rfl)
/-- A completed send `e` gives back the final row block that was passed on. -/
theorem pay_se (c : Dev nD) (i : Fin 3) : pay m (.snd (.e i)) c 0 ⊢ own c (win (oW (yi c) (f5 i))) fullShare (fin m c (yi c) (f5 i)) :=
  Entails.of_eq (by unfold fin; rw [who_y]; rfl)
/-- A completed local copy of the own quarter is a final row block, and a share of its source. -/
theorem pay_c (c : Dev nD) (k : Fin 8) : pay m (.cp k) c 0
    ⊢ iprop(own c (win (oW (qi c) k)) fullShare (fin m c (qi c) k) ∗ own c (win (bW k)) fullShare.right.right (red m c (qi c) k)) :=
  Entails.of_eq (by unfold fin; rw [who_q]; rfl)
/-- A completed local copy of the diagonal quarter is a final row block, and its source. -/
theorem pay_h (c : Dev nD) (j : Fin 2) : pay m (.hp j) c 0
    ⊢ iprop(own c (win (oW (di c) (lo j))) fullShare (fin m c (di c) (lo j)) ∗ own c (win (gW j)) fullShare (red m c (di c) (lo j))) :=
  Entails.of_eq (by unfold fin; rw [who_lo]; rfl)

/-! ## Handing windows over at the start -/

/-- A device's windows that receive in one direction are the barrier's payload to the neighbour in that direction. -/
theorem give (δ : Fin 3) (c : Dev nD) : sepL (fun t => any (F := F) c (dstW t c)) (dirL δ) ⊢ barPay (nb δ c) δ :=
  Entails.of_eq (by unfold barPay; rw [nb_nb])

/-- The windows a device hands over, and those of the result it keeps. -/
def handed (c : Dev nD) : sProp 𝕄 :=
  iprop(barPay (F := F) (nb 0 c) 0 ∗ barPay (F := F) (nb 1 c) 1 ∗ barPay (F := F) (nb 2 c) 2
    ∗ sepL (fun k => any (F := F) c (win (oW (qi c) k))) all8 ∗ sepL (fun j => any (F := F) c (win (oW (di c) (lo j)))) all2)

/-- The result and the two receive buffers, at any contents, give the windows handed over and those of the result that are kept. -/
theorem handed_intro (c : Dev nD) : iprop((∃ X : S8192x1024.Idx → Elt F .f32, owns (Val := Elt F) (c : Thread nD τ) oM fullShare X)
    ∗ (∃ X : S2048x1024.Idx → Elt F .f32, owns (Val := Elt F) (c : Thread nD τ) bM fullShare X)
    ∗ ∃ X : S512x1024.Idx → Elt F .f32, owns (Val := Elt F) (c : Thread nD τ) gM fullShare X) ⊢ handed (F := F) c := by
  unfold handed
  iintro ⟨⟨%Xo, Ho⟩, ⟨%Xb, Hb⟩, ⟨%Xg, Hg⟩⟩
  ihave Hb := (b_split c Xb) $$ Hb
  ihave Hg := (g_split c Xg) $$ Hg
  ihave Ho := (o_split c Xo).1 $$ Ho
  unfold quarters
  icases Ho with ⟨Hq, Hy, Hz, Hd⟩
  have e : ∀ Q, sepL (fun k => own (F := F) c (win (oW Q k)) fullShare (fun j => Xo ((R (Q, k)).emb j))) all8 ⊢ sepL (fun k => any (F := F) c (win (oW Q k))) all8 :=
    fun Q => sepL_mono (fun k => by iintro H; iexists (fun j => Xo ((R (Q, k)).emb j)); iexact H) all8
  ihave Hq := (e (qi c)) $$ Hq
  ihave Hy := (e (yi c)) $$ Hy
  ihave Hz := (e (zi c)) $$ Hz
  ihave Hd := (e (di c)) $$ Hd
  ihave Hd := (Entails.of_eq (eight (fun k => any (F := F) c (win (oW (di c) k))))) $$ Hd
  icases Hd with ⟨Hlo, Hf2, Hf5⟩
  isplitl [Hb Hg]
  · iapply (give 0 c); rw [dir0]
    isplitl [Hb]; · iexact Hb
    iexact Hg
  isplitl [Hy Hf2]
  · iapply (give 1 c); rw [dir1]
    isplitl [Hy]; · iexact Hy
    iexact Hf2
  isplitl [Hz Hf5]
  · iapply (give 2 c); rw [dir2]
    isplitl [Hz]; · iexact Hz
    iexact Hf5
  isplitl [Hq] <;> iassumption

/-! ## The staged argument in use -/

/-- One half of the staged rows the device uses, at a share. -/
def used (c : Dev nD) (q : PosShare TreeShare) : sProp 𝕄 :=
  iprop(sepL (fun k => own c (win (xW (qi c) k)) q (xblk m c (qi c) k)) all8 ∗ sepL (fun j => own c (win (xW (di c) (lo j))) q (xblk m c (di c) (lo j))) all2)
/-- The staged rows it does not. -/
def unused (c : Dev nD) : sProp 𝕄 :=
  iprop(sepL (fun k => own c (win (xW (yi c) k)) fullShare (xblk m c (yi c) k)) all8 ∗ sepL (fun k => own c (win (xW (zi c) k)) fullShare (xblk m c (zi c) k)) all8
    ∗ sepL (fun j => own c (win (xW (di c) (f2 j))) fullShare (xblk m c (di c) (f2 j))) all3
    ∗ sepL (fun j => own c (win (xW (di c) (f5 j))) fullShare (xblk m c (di c) (f5 j))) all3)

/-- A family of windows at a share is the family at each half of the share. -/
theorem halves {ι : Type} (c : Dev nD) (w : ι → Win) (q : PosShare TreeShare) (X : ι → Blk F) (l : List ι) :
    sepL (fun i => own c (w i) q (X i)) l = iprop(sepL (fun i => own c (w i) q.left (X i)) l ∗ sepL (fun i => own c (w i) q.right (X i)) l) := by
  rw [← eqv (sepL_sep _ _ l)]
  exact congrArg (fun Φ => sepL Φ l) (funext fun i => eqv (own_halves c (w i) q (X i)))

/-- The staged argument is the used rows twice, at half the share each, and the unused rows. -/
theorem x_use (c : Dev nD) : (owns (Val := Elt F) (c : Thread nD τ) xM fullShare (xstg m c) : sProp 𝕄)
    ⊣⊢ iprop(used m c fullShare.left ∗ used m c fullShare.right ∗ unused m c) := by
  have e := eqv (x_split m c fullShare)
  rw [e]
  unfold quarters used unused
  rw [eight (fun k => own c (win (xW (di c) k)) fullShare (xblk m c (di c) k)),
    halves c (fun k => win (xW (qi c) k)) fullShare (fun k => xblk m c (qi c) k) all8,
    halves c (fun j => win (xW (di c) (lo j))) fullShare (fun j => xblk m c (di c) (lo j)) all2]
  constructor
  · iintro ⟨⟨H1, H2⟩, H3, H4, ⟨H5, H6⟩, H7, H8⟩
    isplitl [H1 H5]; · isplitl [H1] <;> iassumption
    isplitl [H2 H6]; · isplitl [H2] <;> iassumption
    isplitl [H3]; · iexact H3
    isplitl [H4]; · iexact H4
    isplitl [H7] <;> iassumption
  · iintro ⟨⟨H1, H5⟩, ⟨H2, H6⟩, H3, H4, H7, H8⟩
    isplitl [H1 H2]; · isplitl [H1] <;> iassumption
    isplitl [H3]; · iexact H3
    isplitl [H4]; · iexact H4
    isplitl [H5 H6]; · isplitl [H5] <;> iassumption
    isplitl [H7] <;> iassumption

end Cert.KernelIdeal.P
end
-- ==== Proof.Ideal.Run.lean ====
/-
# The whole body

The loops one after another, from a device's start to its end.
-/
module

public import proofs.«01_k».proof.Proof.Ideal.Body

@[expose] public section

noncomputable section

namespace Cert.KernelIdeal.P

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-! ## The start of each loop, from its parts -/

/-- Transfers' destinations and tokens are what the transfers need but for the sources. -/
theorem go_intro {ι : Type} (c : Dev nD) (t : ι → Xf) (l : List ι) :
    iprop(sepL (fun i => any (peer (t i) c) (dstW (t i) (peer (t i) c))) l ∗ sepL (fun i => tks (t i) c) l) ⊢ sepL (fun i => goRes (F := F) (t i) c) l :=
  zip _ _ l
/-- Sources, destinations and tokens are what the transfers need. -/
theorem send_intro {ι : Type} (c : Dev nD) (t : ι → Xf) (l : List ι) :
    iprop(sepL (fun i => own c (srcW (t i) c) (shr (t i)) (cont m (t i) c)) l ∗ sepL (fun i => goRes (t i) c) l) ⊢ sepL (fun i => sendRes m (t i) c) l :=
  zip _ _ l
/-- Positions and credits are what the waits need. -/
theorem wait_intro {ι : Type} (c : Dev nD) (k : ι → Cell) (l : List ι) :
    iprop(sepL (fun i => at0 c (k i)) l ∗ sepL (fun i => crd c (k i)) l) ⊢ sepL (fun i => wPre (F := F) c (k i)) l :=
  zip _ _ l
/-- Completed waits are positions past the round, and payloads. -/
theorem wait_elim {ι : Type} (c : Dev nD) (k : ι → Cell) (l : List ι) :
    sepL (fun i => wPost m c (k i)) l ⊢ iprop(sepL (fun i => at1 (F := F) c (k i)) l ∗ sepL (fun i => pay m (k i) c 0) l) :=
  unzip _ _ l

/-- What the loop over the own quarter takes, put together by kind. -/
theorem preO_intro (c : Dev nD) : iprop(sepL (fun k => wPre c (.rcv (.x k))) all8
      ∗ sepL (fun k => own c (win (xW (qi c) k)) fullShare.left (xblk m c (qi c) k)) all8 ∗ sepL (fun k => goRes (.a k) c) all8
      ∗ sepL (fun k => goRes (.b k) c) all8 ∗ sepL (fun k => any c (win (oW (qi c) k))) all8 ∗ sepL (fun k => tok c (.cp k)) all8)
    ⊢ sepL (preO m c) all8 := by
  refine (sep_mono_right ?_).trans (zip _ _ all8)
  refine (sep_mono_right ?_).trans (zip _ _ all8)
  refine (sep_mono_right ?_).trans (zip _ _ all8)
  exact (sep_mono_right (zip _ _ all8)).trans (zip _ _ all8)
/-- What the loop over the own quarter leaves, by kind. -/
theorem postO_elim (c : Dev nD) : sepL (postO m c) all8 ⊢ iprop(sepL (fun k => at1 c (.rcv (.x k))) all8
      ∗ sepL (fun k => own c (win (xW (qi c) k)) fullShare.left (xblk m c (qi c) k)) all8 ∗ sepL (fun k => crd c (.snd (.a k))) all8
      ∗ sepL (fun k => crd c (.snd (.b k))) all8 ∗ sepL (fun k => crd c (.cp k)) all8) := by
  refine (unzip _ _ all8).trans (sep_mono_right ?_)
  refine (unzip _ _ all8).trans (sep_mono_right ?_)
  exact (unzip _ _ all8).trans (sep_mono_right (unzip _ _ all8))
/-- What the loop over the diagonal quarter takes, put together by kind. -/
theorem preG_intro (c : Dev nD) : iprop(sepL (fun j => wPre c (.rcv (.g j))) all2
      ∗ sepL (fun j => own c (win (xW (di c) (lo j))) fullShare.left (xblk m c (di c) (lo j))) all2
      ∗ sepL (fun j => any c (win (oW (di c) (lo j)))) all2 ∗ sepL (fun j => tok c (.hp j)) all2)
    ⊢ sepL (preG m c) all2 :=
  (sep_mono_right ((sep_mono_right (zip _ _ all2)).trans (zip _ _ all2))).trans (zip _ _ all2)
/-- What the loop over the diagonal quarter leaves, by kind. -/
theorem postG_elim (c : Dev nD) : sepL (postG m c) all2 ⊢ iprop(sepL (fun j => at1 c (.rcv (.g j))) all2
      ∗ sepL (fun j => own c (win (xW (di c) (lo j))) fullShare.left (xblk m c (di c) (lo j))) all2 ∗ sepL (fun j => crd c (.hp j)) all2) :=
  (unzip _ _ all2).trans (sep_mono_right (unzip _ _ all2))

/-- The loops that pass blocks on: what a turn takes and what it leaves. -/
def preD (c : Dev nD) (i : Fin 3) : sProp 𝕄 := iprop(wPre (F := F) c (.rcv (.b (f2 i))) ∗ goRes (F := F) (.d i) c)
def postD (c : Dev nD) (i : Fin 3) : sProp 𝕄 := iprop(at1 (F := F) c (.rcv (.b (f2 i))) ∗ crd (F := F) c (.snd (.d i)))
def preE (c : Dev nD) (i : Fin 3) : sProp 𝕄 := iprop(wPre (F := F) c (.rcv (.a (f5 i))) ∗ goRes (F := F) (.e i) c)
def postE (c : Dev nD) (i : Fin 3) : sProp 𝕄 := iprop(at1 (F := F) c (.rcv (.a (f5 i))) ∗ crd (F := F) c (.snd (.e i)))

/-- The debts while blocks are passed on along the second axis. -/
def stD (l : List (Fin 3)) : List Ob := l.map (fun i => .xf (.d i)) ++ obE

/-- The loop that passes three blocks on along the second axis. -/
theorem loopD (c : Dev nD) : iprop(ctx m K ∗ owed (F := F) c (stD all3) ∗ sepL (preD c) all3)
    ⊢ wpc c (loop (passD c) all3) (fun _ => iprop(owed (F := F) c (stD []) ∗ sepL (postD c) all3)) :=
  wp_loop (passD c) (ctx m K) (fun l => owed (F := F) c (stD l)) (preD c) (postD c) (turnD m K c) all3
/-- What the loop along the second axis leaves, by kind. -/
theorem postD_elim (c : Dev nD) : sepL (postD c) all3 ⊢ iprop(sepL (fun i => at1 (F := F) c (.rcv (.b (f2 i)))) all3 ∗ sepL (fun i => crd c (.snd (.d i))) all3) := unzip _ _ all3
/-- What the loop along the third axis leaves, by kind. -/
theorem postE_elim (c : Dev nD) : sepL (postE c) all3 ⊢ iprop(sepL (fun i => at1 (F := F) c (.rcv (.a (f5 i)))) all3 ∗ sepL (fun i => crd c (.snd (.e i))) all3) := unzip _ _ all3
/-- The loop that passes three blocks on along the third axis; nothing is owed after it. -/
theorem loopE (c : Dev nD) : iprop(ctx m K ∗ owed (F := F) c obE ∗ sepL (preE c) all3)
    ⊢ wpc c (loop (passE c) all3) (fun _ => iprop(owed (F := F) c [] ∗ sepL (postE c) all3)) :=
  wp_loop (passE c) (ctx m K) (fun l => owed (F := F) c (l.map (fun i => .xf (.e i)))) (preE c) (postE c) (turnE m K c) all3

/-! ## The signals and the wait for the neighbours -/

/-- What the rest of the body needs of the neighbours' windows. -/
def got (c : Dev nD) : sProp 𝕄 := iprop(barPay (F := F) c 0 ∗ barPay c 1 ∗ barPay c 2)

/-- The three signals and the wait for three: a device hands over the windows that it will receive in and gets those that it will send to. -/
theorem greet (c : Dev nD) {k : PUnit → Code F PUnit} {Q : PUnit → sProp 𝕄} :
    iprop(ctx m K ∗ owed c obs ∗ (dutyTok ER (kcell (nb 0 c, .bar)) 0 0 ∗ dutyTok ER (kcell (nb 1 c, .bar)) 0 1 ∗ dutyTok ER (kcell (nb 2 c, .bar)) 0 2)
        ∗ (barPay (nb 0 c) 0 ∗ barPay (nb 1 c) 1 ∗ barPay (nb 2 c) 2) ∗ at0 c .bar ∗ cred (tallyAt (kcell (c, .bar)) () 3))
      ⊢ iprop(((owed (F := F) c obX ∗ at1 c .bar ∗ got c) -∗ wpc c (k ⟨⟩) Q)
        -∗ wpc c (semSignalWord (xn c) barS 1#32 >>= fun _ => semSignalWord (yn c) barS 1#32 >>= fun _ => semSignalWord (zn c) barS 1#32 >>= fun _ =>
            semWaitWord barS 3#32 >>= k) Q) := by
  iintro ⟨#HC, HO, ⟨T0, T1, T2⟩, ⟨P0, P1, P2⟩, Hat, Hc⟩ Hk
  iapply (wp_seq (step_signal m K 0 c (.sig 1 :: .sig 2 :: obX) rfl)) $$ [HO T0 P0]
  · isplitr; · iexact HC
    isplitl [HO]; · iexact HO
    isplitl [T0] <;> iassumption
  iintro HO
  iapply (wp_seq (step_signal m K 1 c (.sig 2 :: obX) rfl)) $$ [HO T1 P1]
  · isplitr; · iexact HC
    isplitl [HO]; · iexact HO
    isplitl [T1] <;> iassumption
  iintro HO
  iapply (wp_seq (step_signal m K 2 c obX rfl)) $$ [HO T2 P2]
  · isplitr; · iexact HC
    isplitl [HO]; · iexact HO
    isplitl [T2] <;> iassumption
  iintro HO
  iapply (wp_seq (step_barrier m K c obX lvX)) $$ [HO Hat Hc]
  · isplitr; · iexact HC
    isplitl [HO]; · iexact HO
    isplitl [Hat] <;> iassumption
  iintro ⟨HO, Hat, Hp⟩
  iapply Hk
  isplitl [HO]; · iexact HO
  isplitl [Hat]; · iexact Hat
  unfold got; iexact Hp

/-- The neighbours' windows with the transfers' tokens. -/
theorem got_go (c : Dev nD) : iprop(got c ∗ sepL (fun t => tks t c) allX)
    ⊢ iprop((sepL (fun k => goRes (F := F) (.x k) c) all8 ∗ sepL (fun j => goRes (.g j) c) all2)
      ∗ (sepL (fun k => goRes (.a k) c) all8 ∗ sepL (fun i => goRes (.d i) c) all3) ∗ (sepL (fun k => goRes (.b k) c) all8 ∗ sepL (fun i => goRes (.e i) c) all3)) := by
  unfold got barPay
  rw [dir0, dir1, dir2, xfers]
  iintro ⟨⟨⟨A1, A2⟩, ⟨A3, A4⟩, A5, A6⟩, ⟨B1, B2⟩, ⟨B3, B4⟩, B5, B6⟩
  isplitl [A1 A2 B1 B2]
  · isplitl [A1 B1]
    · iapply (go_intro c .x all8); isplitl [A1]; · iexact A1
      iexact B1
    · iapply (go_intro c .g all2); isplitl [A2]; · iexact A2
      iexact B2
  isplitl [A3 A4 B3 B4]
  · isplitl [A3 B3]
    · iapply (go_intro c .a all8); isplitl [A3]; · iexact A3
      iexact B3
    · iapply (go_intro c .d all3); isplitl [A4]; · iexact A4
      iexact B4
  · isplitl [A5 B5]
    · iapply (go_intro c .b all8); isplitl [A5]; · iexact A5
      iexact B5
    · iapply (go_intro c .e all3); isplitl [A6]; · iexact A6
      iexact B6

/-! ## The end, from its parts -/

/-- The result's row blocks as they come back. -/
theorem out_intro (c : Dev nD) :
    iprop((sepL (fun j => pay m (.rcv (.a (lo j))) c 0) all2 ∗ sepL (fun j => pay m (.rcv (.a (f2 j))) c 0) all3
        ∗ sepL (fun j => pay m (.rcv (.b (lo j))) c 0) all2 ∗ sepL (fun j => pay m (.rcv (.b (f5 j))) c 0) all3
        ∗ sepL (fun i => pay m (.rcv (.d i)) c 0) all3 ∗ sepL (fun i => pay m (.rcv (.e i)) c 0) all3)
        ∗ (sepL (fun i => pay m (.snd (.d i)) c 0) all3 ∗ sepL (fun i => pay m (.snd (.e i)) c 0) all3)
        ∗ sepL (fun k => own c (win (oW (qi c) k)) fullShare (fin m c (qi c) k)) all8
        ∗ sepL (fun j => own c (win (oW (di c) (lo j))) fullShare (fin m c (di c) (lo j))) all2)
      ⊢ (owns (Val := Elt F) (c : Thread nD τ) oM fullShare (outC m c) : sProp 𝕄) := by
  refine BIBase.Entails.trans ?_ (o_join m c)
  unfold quarters
  rw [eight (fun k => own c (win (oW (yi c) k)) fullShare (fin m c (yi c) k)), eight (fun k => own c (win (oW (zi c) k)) fullShare (fin m c (zi c) k)),
    eight (fun k => own c (win (oW (di c) k)) fullShare (fin m c (di c) k))]
  iintro ⟨⟨A1, A2, B1, B2, D, E⟩, ⟨SD, SE⟩, Q, H⟩
  isplitl [Q]; · iexact Q
  isplitl [A1 A2 SE]
  · isplitl [A1]; · iapply (sepL_mono (fun j => pay_a m c (lo j)) all2); iexact A1
    isplitl [A2]; · iapply (sepL_mono (fun j => pay_a m c (f2 j)) all3); iexact A2
    iapply (sepL_mono (fun j => pay_se m c j) all3); iexact SE
  isplitl [B1 B2 SD]
  · isplitl [B1]; · iapply (sepL_mono (fun j => pay_b m c (lo j)) all2); iexact B1
    isplitl [SD]; · iapply (sepL_mono (fun j => pay_sd m c j) all3); iexact SD
    iapply (sepL_mono (fun j => pay_b m c (f5 j)) all3); iexact B2
  isplitl [H]; · iexact H
  isplitl [D]; · iapply (sepL_mono (fun j => pay_d m c j) all3); iexact D
  iapply (sepL_mono (fun j => pay_e m c j) all3); iexact E

/-- The receive buffer's three shares of every row block join. -/
theorem b_back (c : Dev nD) :
    iprop(sepL (fun k => pay m (.snd (.a k)) c 0) all8 ∗ sepL (fun k => pay m (.snd (.b k)) c 0) all8
        ∗ sepL (fun k => own c (win (bW k)) fullShare.right.right (red m c (qi c) k)) all8)
      ⊢ (iprop(∃ X : S2048x1024.Idx → Elt F .f32, owns (Val := Elt F) (c : Thread nD τ) bM fullShare X) : sProp 𝕄) := by
  refine BIBase.Entails.trans ?_ (b_join c (fun k => red m c (qi c) k))
  rw [halves c (fun k => win (bW k)) fullShare (fun k => red m c (qi c) k) all8, halves c (fun k => win (bW k)) fullShare.right (fun k => red m c (qi c) k) all8]
  exact .rfl

/-- The local copies give back the result's row blocks and the receive buffers'. -/
theorem cp_elim (c : Dev nD) : sepL (fun k => pay m (lcell (.cS k)) c 0) all8
    ⊢ iprop(sepL (fun k => own c (win (oW (qi c) k)) fullShare (fin m c (qi c) k)) all8
      ∗ sepL (fun k => own c (win (bW k)) fullShare.right.right (red m c (qi c) k)) all8) :=
  (sepL_mono (fun k => pay_c m c k) all8).trans (unzip _ _ all8)
/-- The payloads of the diagonal quarter's local copies are its first two final row blocks and their sources. -/
theorem hp_elim (c : Dev nD) : sepL (fun j => pay m (lcell (.hS j)) c 0) all2
    ⊢ iprop(sepL (fun j => own c (win (oW (di c) (lo j))) fullShare (fin m c (di c) (lo j))) all2
      ∗ sepL (fun j => own c (win (gW j)) fullShare (red m c (di c) (lo j))) all2) :=
  (sepL_mono (fun k => pay_h m c k) all2).trans (unzip _ _ all2)

/-- The body, at every device. -/
theorem sound (c : Dev nD) : iprop(ctx m K ∗ owed c obs ∗ startRes c ∗ bufs0 m c)
    ⊢ wpc c (prog c) (fun _ => iprop(owed (F := F) c [] ∗ sepL (zero c) allC ∗ bufs1 m c)) := by
  refine BIBase.Entails.trans ?_ (wp_fupd _ _ _ _ _)
  unfold startRes bufs0 prog
  rw [cells_split, xfers (fun t => at0 c (.snd t)), xfers (fun t => at0 c (.rcv t)), xfers (fun t => crd c (.rcv t)),
    eight (fun k => at0 c (.rcv (.a k))), eight (fun k => at0 c (.rcv (.b k))), eight (fun k => crd c (.rcv (.a k))), eight (fun k => crd c (.rcv (.b k)))]
  iintro ⟨#HC, HO, ⟨⟨Hat, ⟨⟨Sx, Sg⟩, ⟨Sa, Sd⟩, Sb, Se⟩, ⟨⟨Rx, Rg⟩, ⟨⟨Ra1, Ra2, Ra3⟩, Rrd⟩, ⟨Rb1, Rb2, Rb3⟩, Re⟩, Cp, Hp⟩, Hcb,
    ⟨⟨Qx, Qg⟩, ⟨⟨Qa1, Qa2, Qa3⟩, Qd⟩, ⟨Qb1, Qb2, Qb3⟩, Qe⟩, Htb, Htk, Htc, Hth⟩, Hx, Hbuf⟩
  ihave Hbuf := (handed_intro c) $$ Hbuf
  unfold handed
  icases Hbuf with ⟨P0, P1, P2, Oq, Od⟩
  iapply (greet m K c) $$ [HO Htb P0 P1 P2 Hat Hcb]
  · isplitr; · iexact HC
    isplitl [HO]; · iexact HO
    isplitl [Htb]; · iexact Htb
    isplitl [P0 P1 P2]
    · isplitl [P0]; · iexact P0
      isplitl [P1] <;> iassumption
    isplitl [Hat] <;> iassumption
  iintro ⟨HO, Abar, Hgot⟩
  ihave Hgo := (got_go c) $$ [Hgot Htk]
  · isplitl [Hgot] <;> iassumption
  icases Hgo with ⟨⟨Gx, Gg⟩, ⟨Ga, Gd⟩, Gb, Ge⟩
  ihave Hx := (x_use m c).1 $$ Hx
  icases Hx with ⟨Xl, Xr, Xu⟩
  unfold used
  icases Xl with ⟨Xlq, Xld⟩
  icases Xr with ⟨Xrq, Xrd⟩
  -- the first transfers
  iapply (wp_seq (wp_loop (sendX c) (ctx m K) (fun l => owed (F := F) c (l.map xOb ++ obC)) (fun i => sendRes m (xX i) c) (fun i => crd c (.snd (xX i)))
    (turnX m K c) (all8.map .inl ++ all2.map .inr))) $$ [HO Xrq Xrd Gx Gg]
  · isplitr; · iexact HC
    isplitl [HO]; · iexact HO
    rw [xl_split]
    isplitl [Xrq Gx]
    · iapply (send_intro m c .x all8); isplitl [Xrq]; · iexact Xrq
      iexact Gx
    · iapply (send_intro m c .g all2); isplitl [Xrd]; · iexact Xrd
      iexact Gg
  rw [xl_split]
  iintro ⟨HO, Kx, Kg⟩
  -- the own quarter
  ihave Pre := (preO_intro m c) $$ [Rx Qx Xlq Ga Gb Oq Htc]
  · isplitl [Rx Qx]
    · iapply (wait_intro c (fun k => .rcv (.x k)) all8); isplitl [Rx]; · iexact Rx
      iexact Qx
    isplitl [Xlq]; · iexact Xlq
    isplitl [Ga]; · iexact Ga
    isplitl [Gb]; · iexact Gb
    isplitl [Oq] <;> iassumption
  iapply (wp_seq (wp_loop (chunkO c) (ctx m K) (fun l => owed (F := F) c (abL l ++ obD)) (preO m c) (postO m c) (turnO m K c) all8)) $$ [HO Pre]
  · isplitr; · iexact HC
    isplitl [HO]; · iexact HO
    iexact Pre
  iintro ⟨HO, Post⟩
  ihave Post := (postO_elim m c) $$ Post
  icases Post with ⟨Ax, Xlq, Ka, Kb, Kc⟩
  -- the diagonal quarter
  ihave Pre := (preG_intro m c) $$ [Rg Qg Xld Od Hth]
  · isplitl [Rg Qg]
    · iapply (wait_intro c (fun k => .rcv (.g k)) all2); isplitl [Rg]; · iexact Rg
      iexact Qg
    isplitl [Xld]; · iexact Xld
    isplitl [Od] <;> iassumption
  iapply (wp_seq (wp_loop (chunkD c) (ctx m K) (fun l => owed c obD) (preG m c) (postG m c) (turnG m K c) all2)) $$ [HO Pre]
  · isplitr; · iexact HC
    isplitl [HO]; · iexact HO
    iexact Pre
  iintro ⟨HO, Post⟩
  ihave Post := (postG_elim m c) $$ Post
  icases Post with ⟨Ag, Xld, Kh⟩
  -- the blocks passed on
  ihave HO := (Entails.of_eq (show owed (F := F) c obD = owed c (stD all3) from rfl)) $$ HO
  iapply (wp_seq (loopD m K c)) $$ [HO Rb2 Qb2 Gd]
  · isplitr; · iexact HC
    isplitl [HO]; · iexact HO
    iapply (zip _ _ all3)
    isplitl [Rb2 Qb2]
    · iapply (wait_intro c (fun i => .rcv (.b (f2 i))) all3); isplitl [Rb2]; · iexact Rb2
      iexact Qb2
    iexact Gd
  iintro ⟨HO, Post⟩
  ihave Post := (postD_elim c) $$ Post
  icases Post with ⟨Ab2, Kd⟩
  ihave HO := (Entails.of_eq (show owed (F := F) c (stD []) = owed c obE from rfl)) $$ HO
  iapply (wp_seq (loopE m K c)) $$ [HO Ra3 Qa3 Ge]
  · isplitr; · iexact HC
    isplitl [HO]; · iexact HO
    iapply (zip _ _ all3)
    isplitl [Ra3 Qa3]
    · iapply (wait_intro c (fun i => .rcv (.a (f5 i))) all3); isplitl [Ra3]; · iexact Ra3
      iexact Qa3
    iexact Ge
  iintro ⟨HO, Post⟩
  ihave Post := (postE_elim c) $$ Post
  icases Post with ⟨Aa3, Ke⟩
  -- the waits for what arrived
  ihave Pre := (sepL_perm (fun i => wPre c (lcell i)) lastR_perm.symm) $$ [Ra1 Qa1 Ra2 Qa2 Rb1 Qb1 Rb3 Qb3 Rrd Qd Re Qe]
  · rw [lastR_split]
    isplitl [Ra1 Qa1]
    · iapply (wait_intro c (fun j => .rcv (.a (lo j))) all2); isplitl [Ra1]; · iexact Ra1
      iexact Qa1
    isplitl [Ra2 Qa2]
    · iapply (wait_intro c (fun j => .rcv (.a (f2 j))) all3); isplitl [Ra2]; · iexact Ra2
      iexact Qa2
    isplitl [Rb1 Qb1]
    · iapply (wait_intro c (fun j => .rcv (.b (lo j))) all2); isplitl [Rb1]; · iexact Rb1
      iexact Qb1
    isplitl [Rb3 Qb3]
    · iapply (wait_intro c (fun j => .rcv (.b (f5 j))) all3); isplitl [Rb3]; · iexact Rb3
      iexact Qb3
    isplitl [Rrd Qd]
    · iapply (wait_intro c (fun j => .rcv (.d j)) all3); isplitl [Rrd]; · iexact Rrd
      iexact Qd
    iapply (wait_intro c (fun j => .rcv (.e j)) all3); isplitl [Re]; · iexact Re
    iexact Qe
  iapply (wp_seq (wp_loop (last c) (ctx m K) (fun _ => owed (F := F) c []) (fun i => wPre c (lcell i)) (fun i => wPost m c (lcell i)) (turnL m K c) lastR)) $$ [HO Pre]
  · isplitr; · iexact HC
    isplitl [HO]; · iexact HO
    iexact Pre
  iintro ⟨HO, Post⟩
  ihave Post := (sepL_perm (fun i => wPost m c (lcell i)) lastR_perm) $$ Post
  ihave Post := (wait_elim m c lcell lastR') $$ Post
  rw [lastR_split, lastR_split]
  icases Post with ⟨⟨Aa1, Aa2, Ab1, Ab3, Ad, Ae⟩, Yr⟩
  -- the waits for what was sent
  ihave H := (wp_loop (last c) (ctx m K) (fun _ => owed (F := F) c []) (fun i => wPre c (lcell i)) (fun i => wPost m c (lcell i)) (turnL m K c) lastS) $$
    [HO Sx Kx Sg Kg Sa Ka Sb Kb Sd Kd Se Ke Cp Kc Hp Kh]
  · isplitr; · iexact HC
    isplitl [HO]; · iexact HO
    rw [lastS_split]
    isplitl [Sx Kx]; · iapply (wait_intro c (fun j => .snd (.x j)) all8); isplitl [Sx]; · iexact Sx
                       iexact Kx
    isplitl [Sg Kg]; · iapply (wait_intro c (fun j => .snd (.g j)) all2); isplitl [Sg]; · iexact Sg
                       iexact Kg
    isplitl [Sa Ka]
    · iapply (wait_intro c (fun j => .snd (.a j)) all8); isplitl [Sa]; · iexact Sa
      iexact Ka
    isplitl [Sb Kb]
    · iapply (wait_intro c (fun j => .snd (.b j)) all8); isplitl [Sb]; · iexact Sb
      iexact Kb
    isplitl [Sd Kd]
    · iapply (wait_intro c (fun j => .snd (.d j)) all3); isplitl [Sd]; · iexact Sd
      iexact Kd
    isplitl [Se Ke]
    · iapply (wait_intro c (fun j => .snd (.e j)) all3); isplitl [Se]; · iexact Se
      iexact Ke
    isplitl [Cp Kc]
    · iapply (wait_intro c (fun j => .cp j) all8); isplitl [Cp]; · iexact Cp
      iexact Kc
    iapply (wait_intro c (fun j => .hp j) all2); isplitl [Hp]; · iexact Hp
    iexact Kh
  iapply (wp_wand frame _ _) $$ H
  iintro %_ ⟨HO, Post⟩
  ihave Post := (wait_elim m c lcell lastS) $$ Post
  rw [lastS_split, lastS_split]
  icases Post with ⟨⟨Bx, Bg, Ba, Bb, Bd, Be, Bc, Bh⟩, Yx, Yg, Ya, Yb, Yd, Ye, Yc, Yh⟩
  imod (close_all m K c allC) $$ [Abar Bx Bg Ba Bb Bd Be Bc Bh Ax Ag Aa1 Aa2 Aa3 Ab1 Ab2 Ab3 Ad Ae] with Hz
  · isplitr; · iexact HC
    rw [cells_split, xfers (fun t => at1 c (.snd t)), xfers (fun t => at1 c (.rcv t)), eight (fun k => at1 c (.rcv (.a k))), eight (fun k => at1 c (.rcv (.b k)))]
    isplitl [Abar]; · iexact Abar
    isplitl [Bx Bg Ba Bb Bd Be]
    · isplitl [Bx Bg]; · isplitl [Bx]; · iexact Bx
                         iexact Bg
      isplitl [Ba Bd]; · isplitl [Ba]; · iexact Ba
                         iexact Bd
      isplitl [Bb]; · iexact Bb
      iexact Be
    isplitl [Ax Ag Aa1 Aa2 Aa3 Ab1 Ab2 Ab3 Ad Ae]
    · isplitl [Ax Ag]; · isplitl [Ax] <;> iassumption
      isplitl [Aa1 Aa2 Aa3 Ad]
      · isplitl [Aa1 Aa2 Aa3]
        · isplitl [Aa1]; · iexact Aa1
          isplitl [Aa2]; · iexact Aa2
          iexact Aa3
        iexact Ad
      isplitl [Ab1 Ab2 Ab3]
      · isplitl [Ab1]; · iexact Ab1
        isplitl [Ab2]; · iexact Ab2
        iexact Ab3
      iexact Ae
    isplitl [Bc]; · iexact Bc
    iexact Bh
  imodintro
  ihave Yc := (cp_elim m c) $$ Yc
  icases Yc with ⟨Oq, Bq⟩
  ihave Yh := (hp_elim m c) $$ Yh
  icases Yh with ⟨Oh, Gq⟩
  isplitl [HO]; · iexact HO
  isplitl [Hz]; · iexact Hz
  unfold bufs1
  isplitl [Xlq Xld Yx Yg Xu]
  · iapply (x_use m c).2
    unfold used
    isplitl [Xlq Xld]; · isplitl [Xlq] <;> iassumption
    isplitl [Yx Yg]; · isplitl [Yx]; · iexact Yx
                       iexact Yg
    iexact Xu
  isplitl [Yr Yd Ye Oq Oh]
  · iapply (out_intro m c)
    isplitl [Yr]; · iexact Yr
    isplitl [Yd Ye]; · isplitl [Yd]; · iexact Yd
                       iexact Ye
    isplitl [Oq] <;> iassumption
  isplitl [Ya Yb Bq]
  · iapply (b_back m c)
    isplitl [Ya]; · iexact Ya
    isplitl [Yb]; · iexact Yb
    iexact Bq
  · iapply (g_join c (fun j => red m c (di c) (lo j))); iexact Gq

end Cert.KernelIdeal.P
end
-- ==== Proof.Ideal.Deal.lean ====
/-
# What the launch deals

The launch gives every device its semaphores at zero, the ghost state of its cells, the tokens of its cells' duties and
the credit of what the others owe it. Here all cells' invariants are allocated, the tokens are dealt to the devices that
pay the duties, and the credit is counted.
-/
module

public import proofs.«01_k».proof.Proof.Ideal.Run

@[expose] public section

noncomputable section

namespace Cert.KernelIdeal.P

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- No cell is listed twice. -/
theorem allC_nodup : allC.Nodup := by decide +kernel

/-- The conjunction over all cells is the one over their list. -/
theorem cells_list (Φ : Cell → sProp 𝕄) : bigSep Finset.univ Φ = sepL Φ allC := eqv (bigSep_list Φ allC allC_nodup mem_allC)

/-- A list of families of all devices may be dealt around, each family along its own exchange. -/
theorem around {ι : Type} (Ψ : ι → Dev nD → sProp 𝕄) (e : ι → Dev nD ≃ Dev nD) : ∀ l : List ι,
    (bigSep Finset.univ fun c : Dev nD => sepL (fun i => Ψ i c) l) = bigSep Finset.univ fun c : Dev nD => sepL (fun i => Ψ i (e i c)) l
  | [] => rfl
  | i :: l => by
    have ih := around Ψ e l
    show (bigSep Finset.univ fun c : Dev nD => iprop(Ψ i c ∗ sepL (fun i => Ψ i c) l))
      = bigSep Finset.univ fun c : Dev nD => iprop(Ψ i (e i c) ∗ sepL (fun i => Ψ i (e i c)) l)
    rw [bigSep_sep', bigSep_sep', bigSep_univ_equiv (e i) (Ψ i), ih]

/-! ## The ghost state of the cells -/

def allCells : Finset (GSem nD τ sig) := Finset.univ.map ⟨kcell, kcell_inj⟩
def tokAt (x : (Dev nD × Cell) × Fin 3) : GSem nD τ sig × ℕ × Fin 3 := (kcell x.1, 0, x.2)
/-- Different cells and duties have different tokens. -/
theorem tokAt_inj : Function.Injective tokAt := by
  rintro ⟨a, i⟩ ⟨b, j⟩ h
  have h1 : a = b := kcell_inj (congrArg Prod.fst h)
  have h2 : i = j := congrArg (fun x : GSem nD τ sig × ℕ × Fin 3 => x.2.2) h
  rw [h1, h2]
def allToks : Finset (GSem nD τ sig × ℕ × Fin 3) := Finset.univ.map ⟨tokAt, tokAt_inj⟩

/-- The ghost state at launch: the pipeline's, and this kernel's cells with their tokens. -/
def u₀ : UU := (initOf (Pipeline.cells cfgs cellOf_inj) (Pipeline.launchToks cfgs cellOf_inj), initOf allCells allToks)

/-- The tokens of a device's own cells. -/
def toks (c : Dev nD) : sProp 𝕄 := bigSep Finset.univ fun k : Cell => bigSep Finset.univ fun δ : Fin 3 => dutyTok ER (kcell (c, k)) 0 δ

/-- What the launch deals a device. -/
def deal (c : Dev nD) : sProp 𝕄 :=
  iprop((bigSep Finset.univ fun k : Cell => roundState ER (Rd m) (kcell (c, k)) 0)
    ∗ (bigSep Finset.univ fun k : Cell => reached ER (kcell (c, k)) 0)
    ∗ (bigSep Finset.univ fun k : Cell => atPos ER (kcell (c, k)) 0 ∅ 0) ∗ toks c)

/-- The conjunction over the cells of the mesh, device by device. -/
theorem cells_all (Φ : GSem nD τ sig → sProp 𝕄) :
    bigSep allCells Φ = bigSep Finset.univ fun c : Dev nD => bigSep Finset.univ fun k : Cell => Φ (kcell (c, k)) := by
  unfold allCells; rw [bigSep_map, bigSep_univ_prod]; rfl

/-- The launch's ghost state of the kernel's cells, device by device. -/
theorem fund_deal : BI.own (ER (initOf allCells allToks)) ⊢ (|==> bigSep Finset.univ (deal m) : sProp 𝕄) := by
  have hT : (bigSep allToks fun x => (dutyTok ER x.1 x.2.1 x.2.2 : sProp 𝕄)) = bigSep Finset.univ fun c : Dev nD => toks c := by
    unfold allToks; rw [bigSep_map, bigSep_univ_prod, bigSep_univ_prod]; rfl
  iintro HX
  imod (Rounds.fund ER (Rd m) allCells allToks) $$ HX with ⟨Hs, Hr, Ha, Ht⟩
  imodintro
  ihave Hs := (Entails.of_eq (cells_all fun g => roundState ER (Rd m) g 0)) $$ Hs
  ihave Hr := (Entails.of_eq (cells_all fun g => reached ER g 0)) $$ Hr
  ihave Ha := (Entails.of_eq (cells_all fun g => atPos ER g 0 ∅ 0)) $$ Ha
  ihave Ht := (Entails.of_eq hT) $$ Ht
  unfold deal; simp only [bigSep_sep']
  isplitl [Hs]; · iexact Hs
  isplitl [Hr]; · iexact Hr
  isplitl [Ha]; · iexact Ha
  iexact Ht

/-! ## The semaphores -/

/-- The semaphores of the kernel's own: all but the barrier. -/
abbrev Own : Type := Xf ⊕ (Xf ⊕ (Fin 8 ⊕ Fin 2))
def ownCell : Own → Cell | .inl t => .snd t | .inr (.inl t) => .rcv t | .inr (.inr (.inl k)) => .cp k | .inr (.inr (.inr j)) => .hp j
def osem (o : Own) : SemLoc sig := csem (ownCell o)

/-- The kernel's own semaphores are distinct, scoped, and none of the pipeline's. -/
theorem ownSemFacts : Pipeline.OwnSemFacts spec0 osem := by decide +kernel

/-- The conjunction over a finite type is the one over a list of its members, as an equation. -/
theorem univ_list {ι : Type} [Fintype ι] [DecidableEq ι] (Φ : ι → sProp 𝕄) (l : List ι) (hn : l.Nodup) (hm : ∀ i, i ∈ l) :
    bigSep Finset.univ Φ = sepL Φ l := eqv (bigSep_list Φ l hn hm)

/-- The semaphores that outlive the kernel are the barrier. -/
theorem unscoped_eq (c : Dev nD) : (unscopedSems0 c : sProp 𝕄) = zero c .bar := by
  unfold unscopedSems0; rw [bigSep_eq_bigSepL_of_eq [SemLoc.reg barS] (by decide) (by decide)]; rfl
/-- The kernel's own semaphores at zero, by kind. -/
theorem own_eq (c : Dev nD) : (Pipeline.ownSems0 (Ix := Unit) (Name := ℕ) (U := UU) (Lvl := ℕ) (Val := Elt F) (τ := τ) osem c : sProp 𝕄)
    = iprop(sepL (fun t => zero c (.snd t)) allX ∗ sepL (fun t => zero c (.rcv t)) allX ∗ sepL (fun k => zero c (.cp k)) all8 ∗ sepL (fun j => zero c (.hp j)) all2) := by
  unfold Pipeline.ownSems0
  rw [bigSep_univ_sum, bigSep_univ_sum, bigSep_univ_sum, univ_list _ allX (by decide) mem_allX, univ_list _ allX (by decide) mem_allX,
    univ_list _ all8 (by decide) (by decide), univ_list _ all2 (by decide) (by decide)]
  rfl
/-- A device's own semaphores and its barrier semaphore are its cells. -/
theorem sems_eq (c : Dev nD) :
    iprop(unscopedSems0 c ∗ Pipeline.ownSems0 (Ix := Unit) (Name := ℕ) (U := UU) (Lvl := ℕ) (Val := Elt F) (τ := τ) osem c) = (sepL (zero (F := F) c) allC : sProp 𝕄) := by
  rw [cells_split, own_eq, unscoped_eq]

/-! ## Each device's share -/

/-- The tokens of a device's own cells, by kind: three of the barrier, one of each other cell. -/
theorem toks_split (c : Dev nD) : (toks c : sProp 𝕄) ⊢ iprop((dutyTok ER (kcell (c, .bar)) 0 0 ∗ dutyTok ER (kcell (c, .bar)) 0 1 ∗ dutyTok ER (kcell (c, .bar)) 0 2)
    ∗ sepL (fun t => tok c (.snd t)) allX ∗ sepL (fun t => tok c (.rcv t)) allX ∗ sepL (fun k => tok c (.cp k)) all8 ∗ sepL (fun j => tok c (.hp j)) all2) := by
  have h0 : ∀ k : Cell, (bigSep Finset.univ fun δ : Fin 3 => (dutyTok ER (kcell (c, k)) 0 δ : sProp 𝕄)) ⊢ tok c k :=
    fun k => bigSep_one 0 (Finset.mem_univ _)
  unfold toks
  rw [cells_list, cells_split]
  refine BI.sep_mono (show (_ : sProp 𝕄) ⊢ (_ : sProp 𝕄) from Entails.of_eq ?_) (BI.sep_mono (sepL_mono (fun t => h0 _) _) (BI.sep_mono (sepL_mono (fun t => h0 _) _)
    (BI.sep_mono (sepL_mono (fun t => h0 _) _) (sepL_mono (fun t => h0 _) _))))
  exact bigSep_univ_eq_bigSepL [0, 1, 2] (by decide) (by decide) _

/-- The tokens a device pays with. -/
def pays (c : Dev nD) : sProp 𝕄 :=
  iprop((dutyTok ER (kcell (nb 0 c, .bar)) 0 0 ∗ dutyTok ER (kcell (nb 1 c, .bar)) 0 1 ∗ dutyTok ER (kcell (nb 2 c, .bar)) 0 2)
    ∗ sepL (fun t => tks t c) allX ∗ sepL (fun k => tok c (.cp k)) all8 ∗ sepL (fun j => tok c (.hp j)) all2)

/-- The tokens dealt around: each to the device that pays its duty. -/
theorem deal_toks : (bigSep Finset.univ fun c : Dev nD => (toks c : sProp 𝕄)) ⊢ bigSep Finset.univ fun c : Dev nD => pays c := by
  refine (bigSep_mono fun c _ => toks_split c).trans ?_
  have hp : ∀ c : Dev nD, (pays c : sProp 𝕄) = iprop((dutyTok ER (kcell (nb 0 c, .bar)) 0 0 ∗ dutyTok ER (kcell (nb 1 c, .bar)) 0 1 ∗ dutyTok ER (kcell (nb 2 c, .bar)) 0 2)
    ∗ (sepL (fun t => tok c (.snd t)) allX ∗ sepL (fun t => tok (nbE (dir t) c) (.rcv t)) allX) ∗ sepL (fun k => tok c (.cp k)) all8 ∗ sepL (fun j => tok c (.hp j)) all2) := by
    intro c
    unfold pays
    rw [← eqv (sepL_sep (fun t => tok c (.snd t)) (fun t => tok (nbE (dir t) c) (.rcv t)) allX)]
    rfl
  rw [bigSep_congr fun c _ => hp c]
  rw [bigSep_sep', bigSep_sep', bigSep_sep', bigSep_sep', bigSep_sep', bigSep_sep', bigSep_sep', bigSep_sep', bigSep_sep', bigSep_sep', bigSep_sep', bigSep_sep',
    bigSep_univ_equiv (nbE 0) (fun c : Dev nD => (dutyTok ER (kcell (c, .bar)) 0 0 : sProp 𝕄)),
    bigSep_univ_equiv (nbE 1) (fun c : Dev nD => (dutyTok ER (kcell (c, .bar)) 0 1 : sProp 𝕄)),
    bigSep_univ_equiv (nbE 2) (fun c : Dev nD => (dutyTok ER (kcell (c, .bar)) 0 2 : sProp 𝕄)),
    around (fun t c => tok c (.rcv t)) (fun t => nbE (dir t)) allX]
  show (_ : sProp 𝕄) ⊢ (_ : sProp 𝕄)
  iintro ⟨H, Hs, Hr, Hc, Hh⟩
  isplitl [H]; · iexact H
  isplitl [Hs Hr]; · isplitl [Hs]; · iexact Hs
                     iexact Hr
  isplitl [Hc]; · iexact Hc
  iexact Hh

/-- What a device starts from but for the credit. -/
def base (c : Dev nD) : sProp 𝕄 := iprop(sepL (at0 c) allC ∗ pays c)
/-- What the records say: the invariants of all cells, and that each is at its first round at least. -/
def recs (K : Dev nD × Cell → ℕ) : sProp 𝕄 :=
  iprop((bigSep Finset.univ fun ck : Dev nD × Cell => cellInv ER (Rd m) (K ck) (kcell ck)) ∗ bigSep Finset.univ fun ck : Dev nD × Cell => reached ER (kcell ck) 0)
instance recs_persistent (K : Dev nD × Cell → ℕ) : BI.Persistent (recs (F := F) m K) := by unfold recs; infer_instance
def share (c : Dev nD) : sProp 𝕄 := iprop(∃ K, recs m K ∗ base c)

/-- One device's cells' invariants, allocated from its semaphores at zero. -/
theorem alloc (c : Dev nD) :
    iprop(Pipeline.ownSems0 (Ix := Unit) (Name := ℕ) (U := UU) (Lvl := ℕ) (Val := Elt F) (τ := τ) osem c ∗ unscopedSems0 c ∗ deal m c)
      ⊢ |={Set.univ}=> iprop((bigSep Finset.univ fun k : Cell => iprop(∃ κ : ℕ, cellInv ER (Rd m) κ (kcell (c, k))))
        ∗ (bigSep Finset.univ fun k : Cell => reached ER (kcell (c, k)) 0) ∗ sepL (at0 c) allC ∗ toks c) := by
  unfold deal
  iintro ⟨Ho, Hu, Hs, Hr, Ha, Ht⟩
  ihave Hv := (Entails.of_eq ((sems_eq c).trans (cells_list (zero (F := F) c)).symm)) $$ [Ho Hu]
  · isplitl [Hu]; · iexact Hu
    iexact Ho
  imod (show iprop((bigSep Finset.univ fun k : Cell => zero (F := F) c k) ∗ bigSep Finset.univ fun k : Cell => roundState ER (Rd m) (kcell (c, k)) 0)
      ⊢ (|={Set.univ}=> bigSep Finset.univ fun k : Cell => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hs] with Hi
  · isplitl [Hv]; · iexact Hv
    iexact Hs
  imodintro
  isplitl [Hi]; · iexact Hi
  isplitl [Hr]; · iexact Hr
  isplitl [Ha]; · iapply (Entails.of_eq (cells_list (at0 (F := F) c))); iexact Ha
  iexact Ht

/-- What persists may be used for every member of a conjunction. -/
theorem keep {I : Type} [DecidableEq I] {S : Finset I} {P : sProp 𝕄} [BI.Persistent P] {Φ Ψ : I → sProp 𝕄} (h : ∀ i, iprop(P ∗ Φ i) ⊢ Ψ i) :
    iprop(P ∗ bigSep S Φ) ⊢ bigSep S Ψ :=
  (sep_mono_left (BI.bigSep_of_persistent S P)).trans (by rw [← bigSep_sep']; exact bigSep_mono fun i _ => h i)

/-- The names of the invariants are chosen for all cells, the tokens are dealt, and every device gets its share. -/
theorem regroup :
    (bigSep Finset.univ fun c : Dev nD => iprop((bigSep Finset.univ fun k : Cell => iprop(∃ κ : ℕ, cellInv ER (Rd m) κ (kcell (c, k))))
        ∗ (bigSep Finset.univ fun k : Cell => reached ER (kcell (c, k)) 0) ∗ sepL (at0 c) allC ∗ toks c) : sProp 𝕄)
      ⊢ bigSep Finset.univ (share m) := by
  rw [bigSep_sep', bigSep_sep', bigSep_sep', ← bigSep_univ_prod (fun ck : Dev nD × Cell => iprop(∃ κ : ℕ, cellInv ER (Rd m) κ (kcell ck))),
    ← bigSep_univ_prod (fun ck : Dev nD × Cell => (reached ER (kcell ck) 0 : sProp 𝕄))]
  iintro ⟨Hi, #Hr, Ha, Ht⟩
  ihave HK := (BI.bigSep_exists_pi Finset.univ (fun (ck : Dev nD × Cell) (κ : ℕ) => (cellInv ER (Rd m) κ (kcell ck) : sProp 𝕄))) $$ Hi
  icases HK with ⟨%K, #Hi⟩
  ihave Hp := (deal_toks (F := F)) $$ Ht
  iapply (keep (P := recs m K) (Φ := base) fun c => show iprop(recs m K ∗ base c) ⊢ share m c from by
    unfold share; iintro H; iexists K; iexact H)
  isplitr
  · unfold recs
    isplitl
    · iexact Hi
    iexact Hr
  · unfold base
    rw [bigSep_sep']
    isplitl [Ha]; · iexact Ha
    iexact Hp

/-- All cells' invariants are allocated at once, and every device gets its share. -/
theorem deal_all :
    (bigSep Finset.univ fun c => iprop(Pipeline.ownSems0 (Ix := Unit) (Name := ℕ) (U := UU) (Lvl := ℕ) (Val := Elt F) (τ := τ) osem c ∗ unscopedSems0 c ∗ deal m c) : sProp 𝕄)
      ⊢ |={Set.univ}=> bigSep Finset.univ (share m) :=
  ((bigSep_mono fun c _ => alloc m c).trans (bigSep_fupd _ _)).trans (BI.fupd_mono (regroup m))

/-! ## The credit -/

/-- What all devices together owe a cell. -/
theorem owed_sum (c : Dev nD) (k : Cell) : ∀ l : List Ob, ∑ d : Dev nD, oblig d l (kcell (c, k)) () = (l.map Ob.kind).count k * amt k
  | [] => by
    show ∑ d : Dev nD, 0 = 0 * amt k
    rw [Finset.sum_const_zero, Nat.zero_mul]
  | o :: l => by
    have ih := owed_sum c k l
    have e : ∀ d : Dev nD, oblig d (o :: l) (kcell (c, k)) () = oblig d l (kcell (c, k)) () + (if d = o.dst c then (if k = o.kind then amt k else 0) else 0) := by
      intro d
      show (oblig d l + tallyAt (kcell (o.dst d, o.kind)) () (amt o.kind)) (kcell (c, k)) () = _
      rw [Pi.add_apply, Finsupp.add_apply, tallyAt_apply]
      congr 1
      by_cases hd : d = o.dst c
      · subst hd
        rw [Ob.dst_dst, if_pos rfl]
        by_cases hk : k = o.kind
        · subst hk; rw [if_pos ⟨rfl, rfl⟩, if_pos rfl]
        · rw [if_neg (fun h => hk (congrArg Prod.snd (kcell_inj h.1))), if_neg hk]
      · rw [if_neg hd, if_neg (fun h => hd (by have := congrArg Prod.fst (kcell_inj h.1); rw [show c = o.dst d from this, Ob.dst_dst]))]
    rw [Finset.sum_congr rfl fun d _ => e d, Finset.sum_add_distrib, ih, Finset.sum_ite_eq' Finset.univ (o.dst c), if_pos (Finset.mem_univ _), List.map_cons, List.count_cons]
    by_cases hk : k = o.kind
    · subst hk; simp [Nat.add_mul]
    · rw [if_neg hk]
      have : (o.kind == k) = false := by simpa using fun h : o.kind = k => hk h.symm
      simp [this]

/-- Three debts are signals. -/
theorem count_bar : (obs.map Ob.kind).count .bar = 3 := by decide
/-- One debt is owed to each receive cell. -/
theorem count_rcv : ∀ t ∈ allX, (obs.map Ob.kind).count (.rcv t) = 1 := by decide +kernel

/-- The credit of a cell at launch is the number of its debts times its amount. -/
theorem credit_eq (c : Dev nD) (k : Cell) (n : ℕ) (h : (obs.map Ob.kind).count k * amt k = n) :
    tallyOn (kcell (c, k)) (launchCredit (Pipeline.owing O₀) 0 (kcell (c, k))) = (tallyAt (kcell (c, k)) () n : CellTallies nD τ sig Unit) := by
  unfold tallyAt; refine congrArg _ (Finsupp.ext fun u => ?_); cases u
  rw [Pipeline.launchCredit_owing, Finsupp.single_eq_same, ← h]
  exact owed_sum c k obs

/-- A conjunction over a list entails another when each member entails its counterpart. -/
theorem sepL_mem {ι : Type} {Φ Ψ : ι → sProp 𝕄} : ∀ l : List ι, (∀ i ∈ l, Φ i ⊢ Ψ i) → (sepL Φ l ⊢ sepL Ψ l)
  | [], _ => .rfl
  | i :: l, h => BI.sep_mono (h i List.mem_cons_self) (sepL_mem l fun j hj => h j (List.mem_cons_of_mem _ hj))

/-- A device's credit: three signals, and a block in each transfer that comes to it. -/
theorem credits (c : Dev nD) : (Pipeline.launchCred O₀ c : sProp 𝕄) ⊢ iprop(cred (tallyAt (kcell (c, .bar)) () 3) ∗ sepL (fun t => crd c (.rcv t)) allX) := by
  unfold Pipeline.launchCred
  refine (bigSep_subset (t := Finset.univ.map ⟨csem, csem_inj⟩) (Finset.subset_univ _)).trans ?_
  rw [bigSep_map, cells_list, cells_split]
  show (_ : sProp 𝕄) ⊢ (_ : sProp 𝕄)
  iintro ⟨H, -, Hr, -⟩
  isplitl [H]
  · iapply (Entails.of_eq (congrArg cred (credit_eq c .bar 3 (by rw [count_bar]; rfl)))); iexact H
  · iapply (sepL_mem allX fun t ht => Entails.of_eq (congrArg cred (credit_eq c (.rcv t) N (by rw [count_rcv t ht]; exact Nat.one_mul _)))); iexact Hr

/-- The share and the credit are what the body starts from. -/
theorem start_intro (c : Dev nD) : iprop(base c ∗ Pipeline.launchCred O₀ c) ⊢ startRes (F := F) c := by
  unfold base pays startRes
  iintro ⟨⟨Ha, Hb, Ht, Hc, Hh⟩, Hcr⟩
  ihave Hcr := (credits (F := F) c) $$ Hcr
  icases Hcr with ⟨H3, Hx⟩
  isplitl [Ha]; · iexact Ha
  isplitl [H3]; · iexact H3
  isplitl [Hx]; · iexact Hx
  isplitl [Hb]; · iexact Hb
  isplitl [Ht]; · iexact Ht
  isplitl [Hc]; · iexact Hc
  iexact Hh

end Cert.KernelIdeal.P
end
-- ==== Proof.Ideal.Launch.lean ====
/-
# The run of the kernel on all devices

The kernel's body under the pipeline that stages its argument, and the whole program's run: from any memory with every
counter at zero, every run ends, with the result of every device the contents `outC`, the argument as it was and every
counter at zero again.
-/
module

public import proofs.«01_k».proof.Proof.Ideal.Deal
public import Idealize.ShloMosaic.Lib.Pipeline.CollectiveSegs

@[expose] public section

noncomputable section

namespace Cert.KernelIdeal.P

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## Whole buffers -/

/-- A whole buffer of a device at given contents. -/
abbrev buf (c : Dev nD) (b : Ref sig .tc) (X : Buf (Elt F) ((c : Thread nD τ).loc b)) : sProp 𝕄 := ((c : Thread nD τ).loc b) ↦{fullShare} X
abbrev bufAny (c : Dev nD) (b : Ref sig .tc) : sProp 𝕄 := iprop(∃ f : Buf (Elt F) ((c : Thread nD τ).loc b), buf c b f)

/-- Owning a whole buffer at given contents is holding it at them. -/
theorem whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ buf c b f) := by
  unfold owns; simp only [Memref.view_whole, View.read_whole, View.set_whole]

/-- A buffer held gives ownership of the whole of it. -/
theorem buf_owns (c : Dev nD) (b : Ref sig .tc) (X : b.ty.Contents (Elt F)) :
    (buf c b X : sProp 𝕄) ⊢ owns (Val := Elt F) (c : Thread nD τ) (Memref.whole b) fullShare X := by
  rw [whole_eq]
  iintro H
  iexists X
  isplitr; · ipureintro; rfl
  iexact H
/-- Ownership of the whole of a buffer gives the buffer held. -/
theorem owns_buf (c : Dev nD) (b : Ref sig .tc) (X : b.ty.Contents (Elt F)) :
    (owns (Val := Elt F) (c : Thread nD τ) (Memref.whole b) fullShare X : sProp 𝕄) ⊢ buf c b X := by
  rw [whole_eq]
  iintro ⟨%f, %h, H⟩
  subst h
  iexact H

/-! ## The pipeline's proof data -/

/-- What device `c`'s body starts from, the staged argument apart: the records, its share and the three other buffers. -/
def begin₀ (c : Dev nD) : sProp 𝕄 := iprop((∃ K, ctx m K) ∗ startRes c ∗ bufAny c main_v1)
def Φ₀ (c : Dev nD) : sProp 𝕄 := iprop(begin₀ m c ∗ bufAny c cc0_scratch0 ∗ bufAny c cc0_scratch1)
/-- What it ends with: its counters at zero, the result, the scratch buffers at any contents. -/
def Φ₁ (c : Dev nD) : sProp 𝕄 := iprop(sepL (zero c) allC ∗ buf c main_v1 (outC m c) ∗ bufAny c cc0_scratch0 ∗ bufAny c cc0_scratch1)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The pipeline has one window. -/
theorem windows (Φ : Fin cfg0.W → sProp 𝕄) : bigSep Finset.univ Φ = iprop(Φ (0 : Fin 1)) := bigSep_W0 Φ

/-- The body between its two states. -/
theorem body_between (c : Dev nD) (d : (cc0_stg0_0 : Ref sig .tc).ty.Contents (Elt F)) (hd : d = xstg m c) :
    iprop(Φ₀ m c ∗ (dats m ρ 0 c).owesAt () t0_0.castSucc ∗ owns (Val := Elt F) (c : Thread nD τ) xM fullShare d)
      ⊢ wpc c (Prog.lift .deviceId >>= prog) (fun _ => iprop(Φ₁ m c ∗ (dats m ρ 0 c).owesAt () t0_0.succ ∗ owns (Val := Elt F) (c : Thread nD τ) xM fullShare (xstg m c))) := by
  subst hd
  unfold Φ₀ begin₀ Dat.owesAt Pipeline.owesWithin
  rw [show (dats m ρ 0 c).owed t0_0.castSucc = oblig c obs from rfl, show (dats m ρ 0 c).owed t0_0.succ = 0 from rfl]
  simp only [Prog.lift, Prog.bind_op, Prog.bind_ret, wp_deviceId]
  iintro ⟨⟨⟨⟨%K, #HC⟩, Hs, ⟨%f, Ho⟩⟩, ⟨%f1, Hb⟩, ⟨%f2, Hg⟩⟩, ⟨%W, %hW, HO⟩, Hx⟩
  ihave H := (sound m K c) $$ [HO Hs Ho Hb Hg Hx]
  · isplitr; · iexact HC
    isplitl [HO]; · iexists W; iexact HO
    isplitl [Hs]; · iexact Hs
    unfold bufs0
    isplitl [Hx]; · iexact Hx
    isplitl [Ho]; · iexists f; iapply (buf_owns c main_v1 f); iexact Ho
    isplitl [Hb]; · iexists f1; iapply (buf_owns c cc0_scratch0 f1); iexact Hb
    iexists f2; iapply (buf_owns c cc0_scratch1 f2); iexact Hg
  iapply (wp_wand frame _ _) $$ H
  iintro %a ⟨⟨%W', HO⟩, Hz, Hbufs⟩
  unfold bufs1
  icases Hbufs with ⟨Hx, Ho, ⟨%f1, Hb⟩, ⟨%f2, Hg⟩⟩
  isplitl [Hz Ho Hb Hg]
  · unfold Φ₁
    isplitl [Hz]; · iexact Hz
    isplitl [Ho]; · iapply (owns_buf c main_v1 (outC m c)); iexact Ho
    isplitl [Hb]; · iexists f1; iapply (owns_buf c cc0_scratch0 f1); iexact Hb
    iexists f2; iapply (owns_buf c cc0_scratch1 f2); iexact Hg
  isplitl [HO]
  · iexists W'
    isplitr
    · ipureintro
      exact fun _ _ => Or.inl trivial
    iexact HO
  iexact Hx

set_option maxRecDepth 20000 in
/-- The body meets the pipeline's obligation. -/
theorem body_meets (c : Dev nD) : BodyObligation (dats (F := F) m ρ 0 c) (defs₀ (F := F)) 𝒱₀ () Set.univ := fun t => by
  rw [fin_N0 t]
  rw [windows, windows]
  show iprop(Φ₀ m c ∗ (dats m ρ 0 c).owesAt () t0_0.castSucc
      ∗ ∃ d, owns (Val := Elt F) (c : Thread nD τ) xM fullShare ((dats m ρ 0 c).before (0 : Fin 1) t0_0 d))
    ⊢ wpc c (cc0_body xM (Memref.isWhole_whole _) oM (Memref.isWhole_whole _) bM (Memref.isWhole_whole _) gM (Memref.isWhole_whole _) cc0_scratch2 cc0_scratch3
        cc0_scratch4 cc0_scratch5 cc0_scratch6 cc0_scratch7 cc0_scratch8 cc0_scratch9 cc0_scratch10 cc0_scratch11 cc0_scratch12)
      (fun _ => iprop(Φ₁ m c ∗ (dats m ρ 0 c).owesAt () t0_0.succ ∗ owns (Val := Elt F) (c : Thread nD τ) xM fullShare (xstg m c)))
  rw [body_eq]
  iintro ⟨H, Ho, ⟨%d, Hx⟩⟩
  have hx : (dats m ρ 0 c).before (0 : Fin 1) t0_0 d = xstg m c := by
    unfold Dat.before; rw [if_pos (fetch0_0 t0_0)]; rfl
  iapply (body_between m ρ c _ hx)
  isplitl [H]; · iexact H
  isplitl [Ho]; · iexact Ho
  iexact Hx

/-! ## The launch's conditions -/

/-- The pipeline holds its window's array at the full share. -/
theorem share_full (c : Dev nD) (w : Fin cfg0.W) : (dats m ρ 0 c).share w = fullShare := by unfold Dat.share; split <;> rfl

/-- What the launch gives a device is, after an update, what its body starts from. -/
theorem begin_intro (c : Dev nD) :
    iprop(Pipeline.unscopedRestP Pipeline.Prefetch.none spec0 c (fun b => m ((c : Thread nD τ).loc b)) ∗ levAts L lv
        ∗ Pipeline.launchCred O₀ c ∗ prngReg c (ρ c) ∗ share m c)
      ⊢ |={Set.univ}=> iprop(begin₀ m c ∗ emp) := by
  rw [Pipeline.unscopedRestP_none, unscopedRest0_eq]
  unfold share recs begin₀
  iintro ⟨Ho, #Hl, Hc, -, ⟨%K, #HR, Hb⟩⟩
  ihave Hs := (start_intro (F := F) c) $$ [Hb Hc]
  · isplitl [Hb] <;> iassumption
  imodintro
  isplitl
  · isplitr
    · iexists K
      unfold ctx
      isplitr; · iexact HR
      iexact Hl
    isplitl [Hs]; · iexact Hs
    iexists _; iexact Ho
  · iempintro

/-- What the body starts from, with the scratch buffers, is the state before the body. -/
theorem enter (c : Dev nD) :
    iprop(begin₀ m c ∗ Pipeline.prefHeld Pipeline.Prefetch.none c (fun _ => fullShare.right) (fun k => k.elim0) ∗ Pipeline.scopedRest spec0 c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

/-- What a device keeps to the end of the run: its barrier counter and its result. -/
def kept (c : Dev nD) : sProp 𝕄 := iprop(unscopedSems0 c ∗ buf c main_v1 (outC m c))

/-- The state after the body gives what is kept, the kernel's own counters at zero and the scratch buffers. -/
theorem leave (c : Dev nD) :
    (dats m ρ 0 c).Φ (Fin.last cfg0.N) ⊢ iprop(kept m c ∗ Pipeline.ownSems0 osem c ∗ Pipeline.scopedRest spec0 c) := by
  rw [show (dats m ρ 0 c).Φ (Fin.last cfg0.N) = Φ₁ m c from rfl, scopedRest0_eq]
  unfold Φ₁ kept
  rw [← sems_eq]
  iintro ⟨⟨Hu, Hs⟩, Ho, Hr⟩
  isplitl [Hu Ho]; · isplitl [Hu] <;> iassumption
  isplitl [Hs]; · iexact Hs
  iexact Hr

/-- The pipeline's own semaphores are at level 0. -/
theorem stage_level : ∀ (w : Fin cfg0.W) (s : Fin ((cfg0.win w).nbuf)), slv (.dma ((cfg0.win w).sem s)) = 0 := by decide

/-- The pipeline may wait at its own semaphores, whatever the body owes. -/
theorem may_stage (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ obs fun o ho => by rw [stage_level]; exact lvS o ho
    · exact mayWait c _ [] fun o ho => absurd ho List.not_mem_nil

/-! ## The run -/

/-- What holds at the end: each device's result, its argument as it was, and every counter at zero. -/
def Ends (r : PUnit × MemSt nD τ sig (Elt F)) : Prop :=
  (∀ c : Dev nD, r.2.mem ((c : Thread nD τ).loc main_v1) = outC m c ∧ r.2.mem ((c : Thread nD τ).loc main_arg0) = m ((c : Thread nD τ).loc main_arg0))
    ∧ r.2.sem = fun _ => 0

/-- What a device keeps tells the final state: its barrier counter is zero and its result is `outC`. -/
theorem kept_read (c : Dev nD) (s' : Phys nD τ sig (Elt F)) :
    iprop(kept m c ∗ emp ∗ SI s') ⊢ |={Set.univ}=> iprop(⌜(∀ sm : SemLoc sig, sm.isScoped .tc = false → s'.mem.sem ((c.tc : Thread nD τ), sm) = 0)
      ∧ s'.mem.mem ((c : Thread nD τ).loc main_v1) = outC m c⌝ ∗ SI s' : sProp 𝕄) := by
  unfold kept
  iintro ⟨⟨Hu, Ho⟩, -, HSI⟩
  ihave %h := (SI_pointsTo_agree (st := s')) $$ [HSI Ho]
  · isplitl [HSI] <;> iassumption
  imod (Pipeline.unscopedSems0_read (X := unscopedSems0 c) (c := c) fupd_intro s') $$ [Hu HSI] with ⟨%h', HSI⟩
  · isplitl [Hu] <;> iassumption
  imodintro
  isplitr
  · ipureintro
    exact ⟨h', funext fun i => h i (Finset.mem_univ _)⟩
  iexact HSI

set_option maxRecDepth 20000 in
/-- From any memory with every counter at zero, for any float values, every run of the eight devices ends with each
    device's result at `outC`, its argument unchanged and every counter at zero. -/
theorem run_main : θ_run defs (onTc (τ := τ) (main (F := F))) (s₀ m ρ) (Ends m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => body_meets m ρ c) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := may_stage m ρ)
    (G := deal m) (G' := share m) (u₀ := u₀)
    (hu₀ := by
      unfold u₀
      iintro Hu
      ihave H := (ownU_pair _ _) $$ Hu
      icases H with ⟨HP, HX⟩
      imod (fund_deal m) $$ HX with HG
      imodintro
      isplitl [HP] <;> iassumption)
    (hglob := deal_all m)
    (hA := fun _ _ => rfl) (hpf := fun _ k => k.elim0)
    (X := begin₀ m) (Y := kept m) (Z := fun _ => iprop(emp))
    (hX := begin_intro m ρ) (hin := enter m ρ) (hout := leave m ρ)
    (QY := fun c s => (∀ sm : SemLoc sig, sm.isScoped .tc = false → s.sem ((c.tc : Thread nD τ), sm) = 0) ∧ s.mem ((c : Thread nD τ).loc main_v1) = outC m c)
    (hY := kept_read m)
    (hQ := fun s h hs => ⟨fun c => ⟨(h c).2.2.2, ((h c).1 (0 : Fin 1)).trans ((dats (F := F) m ρ 0 c).arrAt_in (0 : Fin 1) rfl _)⟩,
      sem_eq_zero hs fun c => (h c).2.2.1⟩)

end Cert.KernelIdeal.P
end
-- ==== Proof.Ideal.Value.lean ====
/-
# The kernel's result over the reals

With the argument cut in two along its rows, the two devices that differ in the first mesh coordinate alone hold its two
halves. Each row block a device ends with is the sum of the two halves there, whichever device computed it; so every
device's result is the sum of the two halves, which is also what the reference computes.
-/
module

public import proofs.«01_k».proof.Proof.Ideal.Windows
public import proofs.«01_k».proof.Proof.Gen.ReferenceIdeal.Run
public import Idealize.ShloMosaic.Lib.Layout
public import Idealize.ShloMosaic.PureOps.Ideal
public import Idealize.ShloMosaic.Lib.Pointwise.Reduce
public import Idealize.ShloMosaic.Lib.Pointwise.Reshape

@[expose] public section

noncomputable section

namespace Cert.KernelIdeal.P

open Cert.KernelIdeal Cert.KernelIdeal.Gen

open Idealize.ShloMosaic
open Idealize.ShloMosaic.TcCoe

/-! ## The halves of the whole array -/

/-- Where index `i` of half `b` is in the whole array: `8192 * b` rows down. -/
def inHalf (b : Fin 2) (i : S8192x1024.Idx) : (⟨2, ![16384, 1024]⟩ : Shape).Idx := fun a => match a with
  | ⟨0, _⟩ => ⟨8192 * b.val + (i 0).val, by
      have h : (i 0).val < 8192 := (i 0).isLt
      have := b.isLt
      show 8192 * b.val + (i 0).val < 16384
      omega⟩
  | ⟨1, _⟩ => ⟨(i 1).val, (i 1).isLt⟩
  | ⟨n + 2, h⟩ => absurd h (by simp)

/-- The sum of the two halves of an array. -/
def sumHalves (W : (⟨2, ![16384, 1024]⟩ : Shape).Idx → Elt Ideal .f32) (i : S8192x1024.Idx) : Elt Ideal .f32 :=
  FloatOps.addf (F := Ideal) (φ := .f32) (W (inHalf 0 i)) (W (inHalf 1 i))

/-- The half that device `c` holds: its first mesh coordinate. -/
def side (c : Dev nD) : Fin 2 := ⟨c.val / 4 % 2, Nat.mod_lt _ (by decide)⟩

/-- The neighbour in the first coordinate holds the other half. -/
theorem side_xn : ∀ c : Dev nD, side (xn c) = 1 - side c := by decide +kernel

/-- Device `c`'s block of the whole array is half `side c`. -/
theorem block_half (W : (⟨2, ![16384, 1024]⟩ : Shape).Idx → Elt Ideal .f32) (c : Dev nD) (i : S8192x1024.Idx) :
    Layout.blockN ⟨2, ![8192, 1024]⟩ ⟨2, ![16384, 1024]⟩ (Layout.meshBlock [2, 2, 2] ![[0], []] c) W (by decide) i = W (inHalf (side c) i) := by
  rw [Layout.blockN_apply]
  congr 1
  funext a
  apply Fin.ext
  rw [Layout.TilesN.idx_val]
  match a with
  | ⟨0, _⟩ =>
    show (c.val / 4 % 2 * 1 + 0) * 8192 + (i 0).val = 8192 * (c.val / 4 % 2) + (i 0).val
    omega
  | ⟨1, _⟩ =>
    show 0 * 1024 + (i 1).val = (i 1).val
    omega

/-! ## The kernel's side -/

variable (m : (ℓ : Loc nD τ sig) → Buf (Elt Ideal) ℓ)

/-- What a device stages is its argument. -/
theorem staged (c : Dev nD) (i : S8192x1024.Idx) : xstg m c i = m ((c : Thread nD τ).loc main_arg0) i := by
  unfold xstg
  rw [View.read_apply]
  refine congrArg (m ((c : Thread nD τ).loc main_arg0)) (funext fun a => Fin.ext ?_)
  show 0 * S8192x1024.size a + 1 * (i a).val = (i a).val
  omega

variable (W : (⟨2, ![16384, 1024]⟩ : Shape).Idx → Elt Ideal .f32)
  (hm : ∀ c : Dev nD, m ((c : Thread nD τ).loc main_arg0) = Layout.blockN ⟨2, ![8192, 1024]⟩ ⟨2, ![16384, 1024]⟩ (Layout.meshBlock [2, 2, 2] ![[0], []] c) W (by decide))
include hm

/-- A row block of a device's argument is that of its half. -/
theorem xblk_half (c : Dev nD) (Q : Fin 4) (k : Fin 8) (j : S256x1024.Idx) : xblk m c Q k j = W (inHalf (side c) ((R (Q, k)).emb j)) := by
  unfold xblk
  rw [staged, hm]
  exact block_half W c _

/-- A row block of sums is that of the sum of the halves, on whichever device. -/
theorem red_halves (c : Dev nD) (Q : Fin 4) (k : Fin 8) (j : S256x1024.Idx) : red m c Q k j = sumHalves W ((R (Q, k)).emb j) := by
  have e : red m c Q k j = FloatOps.addf (F := Ideal) (φ := .f32) (xblk m (xn c) Q k j) (xblk m c Q k j) := by
    unfold red k0_pay1
    simp only [shapeCast_id]
    rfl
  rw [e, xblk_half m W hm, xblk_half m W hm, side_xn]
  unfold sumHalves
  rcases (show ∀ b : Fin 2, b = 0 ∨ b = 1 by decide) (side c) with h | h <;> rw [h]
  · exact add_comm (G := EReal) _ _
  · rfl

/-- Every device's result is the sum of the halves. -/
theorem outC_halves (c : Dev nD) : outC m c = sumHalves W := by
  funext i
  show red m (who c (bandOf ((i 0).val / 256)).1 (bandOf ((i 0).val / 256)).2) (bandOf ((i 0).val / 256)).1 (bandOf ((i 0).val / 256)).2 (place i) = _
  rw [red_halves m W hm]
  congr 1
  have hi : (i 0).val < 8192 := (i 0).isLt
  funext a
  apply Fin.ext
  refine (Rect.emb_apply (R (bandOf ((i 0).val / 256))) (place i) a).trans ?_
  match a with
  | ⟨0, _⟩ =>
    show 2048 * ((i 0).val / 256 / 8 % 4) + 256 * ((i 0).val / 256 % 8) + 1 * ((i 0).val % 256) = (i 0).val
    omega
  | ⟨1, _⟩ =>
    show 0 + 1 * (i 1).val = (i 1).val
    omega

/-! ## The reference's side -/

omit hm

/-- The array cut in two along a new first axis: block `b` of it is half `b`. -/
theorem cut_apply (h1) (b : Fin 2) (i : S8192x1024.Idx) (j : Cert.ReferenceIdeal.S2x8192x1024.Idx)
    (e : (j 0).val = b.val ∧ (j 1).val = (i 0).val ∧ (j 2).val = (i 1).val) :
    shapeCast (s := ⟨2, ![16384, 1024]⟩) Cert.ReferenceIdeal.S2x8192x1024 W h1 j = W (inHalf b i) := by
  unfold shapeCast
  congr 1
  refine Shape.reshapeEquiv_eq_of_vals h1 j (inHalf b i) _ _ (rowMajor_val2 (inHalf b i) 1024 rfl) (rowMajor_val3 j (8192 * 1024) 1024 rfl rfl) ?_
  rw [e.1, e.2.1, e.2.2]
  show (8192 * b.val + (i 0).val) * 1024 + (i 1).val = b.val * (8192 * 1024) + (i 0).val * 1024 + (i 1).val
  omega

/-- The reference's sum over the first axis of the array cut in two is the sum of the halves. -/
theorem ref_halves (h1 h2 h3) :
    Host.reduceAdd (F := Ideal) (φ := .f32) (shapeCast Cert.ReferenceIdeal.S2x8192x1024 W h1) (constant Cert.ReferenceIdeal.S_ .f32 0x00000000#32) (axes := [0]) (t := Cert.ReferenceIdeal.S8192x1024) h2 h3 = sumHalves W := by
  funext i
  rw [Host.reduceAdd_apply, Ideal.hostReduceAdd_def, Ideal.hostReduceAdd_r3_a0, Fin.sum_univ_two]
  have hz : (constant (F := Ideal) Cert.ReferenceIdeal.S_ .f32 0x00000000#32) (Shape.Idx.first h3) = (0 : EReal) := Ideal.ofBits_zero_f32
  rw [hz, zero_add]
  refine congrArg₂ (fun a b : EReal => a + b) (cut_apply W h1 0 i _ ⟨rfl, rfl, rfl⟩) (cut_apply W h1 1 i _ ⟨rfl, rfl, rfl⟩)

end Cert.KernelIdeal.P
end
-- ==== Proof.lean ====
/-
# The claims about the kernel

The kernel runs on eight devices, its argument cut in two along its rows between the devices whose first mesh coordinate
is 0 and those whose first coordinate is 1. As printed and read over the reals it terminates, leaves its argument as it
was and every semaphore counter at zero (Proof/Word and Proof/Ideal, one proof at two readings of the floats); and over
the reals every device's result is the reference's, the sum of the two halves of the argument (Proof/Ideal/Value.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Word.Launch
public import proofs.«01_k».proof.Proof.Ideal.Launch
public import proofs.«01_k».proof.Proof.Ideal.Value
public import Idealize.ShloMosaic.Lib.Quiescent

@[expose] public section

noncomputable section

namespace Cert.Proof

open Idealize.ShloMosaic Idealize.SL.Sem

/-- The kernel as printed terminates, its argument unchanged and every counter back at zero. -/
theorem frame_word : Cert.quiescent_Kernel (hKernel := Cert.Kernel.Gen.facts) := fun m g _ =>
  (θ_run _ _ _).mono (fun _ h => ⟨fun c => (h.1 c).2, h.2⟩) (Cert.Kernel.P.run_main (F := Bits) m g)

/-- The kernel read over the reals terminates, its argument unchanged and every counter back at zero. -/
theorem frame_ideal : Cert.quiescent_KernelIdeal (hKernelIdeal := Cert.KernelIdeal.Gen.facts) := fun m g _ =>
  (θ_run _ _ _).mono (fun _ h => ⟨fun c => (h.1 c).2, h.2⟩) (Cert.KernelIdeal.P.run_main (F := Ideal) m g)

/-- The reference read over the reals terminates, its argument unchanged; it has no counters. -/
theorem frame_reference : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run (F := Ideal) m g)

/-- From memories where each device holds its half of the reference's argument, every device's result is the reference's:
    the sum of the two halves. -/
theorem equal : Cert.algebraic_KernelIdeal_ReferenceIdeal (hKernelIdeal := Cert.KernelIdeal.Gen.facts)
    (hReferenceIdeal := Cert.ReferenceIdeal.Gen.facts) := fun m g m' g' _ hm =>
  ⟨Cert.KernelIdeal.P.sumHalves (m' (((0 : Dev Cert.ReferenceIdeal.nD).tc : Thread Cert.ReferenceIdeal.nD Cert.ReferenceIdeal.τ).loc Cert.ReferenceIdeal.main_arg0)),
    (θ_run _ _ _).mono (fun _ h c => ⟨((h.1 c).1).trans (Cert.KernelIdeal.P.outC_halves m _ hm c), (h.1 c).2⟩)
      (Cert.KernelIdeal.P.run_main (F := Ideal) m g),
    (θ_run _ _ _).mono (fun _ h => ⟨((h 0).1).trans (Cert.KernelIdeal.P.ref_halves _ _ _ _), (h 0).2⟩)
      (Cert.ReferenceIdeal.Value.run (F := Ideal) m' g')⟩

/-- Every claim. -/
theorem claim : Cert.Claim :=
  ⟨Cert.Kernel.Gen.facts, Cert.KernelIdeal.Gen.facts, Cert.ReferenceIdeal.Gen.facts, frame_word, frame_ideal, frame_reference, trivial, equal⟩

end Cert.Proof

end
